-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 512]⟩ ⟨2, ![512, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x1 32) (main_arg3 : FVec F S4x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Pre_scores_finite_ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S512x256 .f32) (main_arg1 : FVec F S256x64 .f32) (main_arg2 : IVec S512x1 32) (main_arg3 : FVec F S64x256x512 .f32) (main_arg4 : FVec F S256x512 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Kernel.lean ====
abbrev S512x256 : Shape := ⟨2, ![512, 256]⟩
abbrev S256x64 : Shape := ⟨2, ![256, 64]⟩
abbrev S512x1 : Shape := ⟨2, ![512, 1]⟩
abbrev S4x256x512 : Shape := ⟨3, ![4, 256, 512]⟩
abbrev S256x512 : Shape := ⟨2, ![256, 512]⟩
abbrev S32x512 : Shape := ⟨2, ![32, 512]⟩
abbrev S512x4 : Shape := ⟨2, ![512, 4]⟩
abbrev S512x1024 : Shape := ⟨2, ![512, 1024]⟩
abbrev S512x512 : Shape := ⟨2, ![512, 512]⟩
abbrev S16x32x512 : Shape := ⟨3, ![16, 32, 512]⟩
abbrev S16 : Shape := ⟨1, ![16]⟩
abbrev S1 : Shape := ⟨1, ![1]⟩
abbrev S_ : Shape := ⟨0, ![]⟩
abbrev S1x256x512 : Shape := ⟨3, ![1, 256, 512]⟩
abbrev S512x64 : Shape := ⟨2, ![512, 64]⟩
abbrev S512 : Shape := ⟨1, ![512]⟩
abbrev S32x256 : Shape := ⟨2, ![32, 256]⟩
abbrev S32x4 : Shape := ⟨2, ![32, 4]⟩
abbrev S32x1 : Shape := ⟨2, ![32, 1]⟩
abbrev S32x1024 : Shape := ⟨2, ![32, 1024]⟩
abbrev S128x512 : Shape := ⟨2, ![128, 512]⟩
abbrev S128x256 : Shape := ⟨2, ![128, 256]⟩
abbrev S1x32x512 : Shape := ⟨3, ![1, 32, 512]⟩

abbrev nBuf : Space → Nat
  | .hbm => 6
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S32x512, .f32⟩
  | .local _ .vmem, ⟨0, _⟩ => ⟨S512x256, .f32⟩
  | .local _ .vmem, ⟨1, _⟩ => ⟨S256x64, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S32x512, .f32⟩
  | .local _ .vmem, ⟨6, _⟩ => ⟨S512x4, .f32⟩
  | .local _ .vmem, ⟨7, _⟩ => ⟨S512x1024, .bf16⟩
  | .local _ .vmem, ⟨8, _⟩ => ⟨S4x256x512, .bf16⟩
  | .local _ .vmem, ⟨9, _⟩ => ⟨S512x512, .bf16⟩
  | .local _ .vmem, ⟨10, _⟩ => ⟨S16x32x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 17 38 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7 : BitVec 32 := 1#32
  let v16 : BitVec 32 := Scalar.muli v13 c1_i32_7
  let v17 : BitVec 32 := Scalar.addi c0_i32_8 v16
  v17.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v18 : BitVec 32 := Scalar.addi v2 c2_i32
  let c16_i32_9 : BitVec 32 := 16#32
  let c0_i32_10 : BitVec 32 := 0#32
  let v19 : BitVec 1 := Scalar.cmpi .eq c16_i32_9 c0_i32_10
  let c1_i32_11 : BitVec 32 := 1#32
  let v20 : BitVec 32 := Scalar.select v19 c1_i32_11 c16_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let c1_i32_16 : BitVec 32 := 1#32
  let v31 : BitVec 32 := Scalar.muli v28 c1_i32_16
  let v32 : BitVec 32 := Scalar.addi c0_i32_17 v31
  v32.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v33 : BitVec 32 := Scalar.addi v2 c3_i32
  let c16_i32_18 : BitVec 32 := 16#32
  let c0_i32_19 : BitVec 32 := 0#32
  let v34 : BitVec 1 := Scalar.cmpi .eq c16_i32_18 c0_i32_19
  let c1_i32_20 : BitVec 32 := 1#32
  let v35 : BitVec 32 := Scalar.select v34 c1_i32_20 c16_i32_18
  let v36 : BitVec 32 := Scalar.remsi v33 v35
  let c0_i32_22 : BitVec 32 := 0#32
  let v38 : BitVec 1 := Scalar.cmpi .slt v36 c0_i32_22
  let c0_i32_23 : BitVec 32 := 0#32
  let v39 : BitVec 1 := Scalar.cmpi .slt v35 c0_i32_23
  let v40 : BitVec 1 := Scalar.xori v38 v39
  let c0_i32_21 : BitVec 32 := 0#32
  let v37 : BitVec 1 := Scalar.cmpi .ne v36 c0_i32_21
  let v41 : BitVec 1 := Scalar.andi v40 v37
  let v42 : BitVec 32 := Scalar.addi v36 v35
  let v43 : BitVec 32 := Scalar.select v41 v42 v36
  let c1_i32_25 : BitVec 32 := 1#32
  let v46 : BitVec 32 := Scalar.muli v43 c1_i32_25
  let v47 : BitVec 32 := Scalar.addi c0_i32_26 v46
  v47.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v48 : BitVec 32 := Scalar.addi v2 c4_i32
  let c16_i32_27 : BitVec 32 := 16#32
  let c0_i32_28 : BitVec 32 := 0#32
  let v49 : BitVec 1 := Scalar.cmpi .eq c16_i32_27 c0_i32_28
  let c1_i32_29 : BitVec 32 := 1#32
  let v50 : BitVec 32 := Scalar.select v49 c1_i32_29 c16_i32_27
  let v51 : BitVec 32 := Scalar.remsi v48 v50
  let c0_i32_31 : BitVec 32 := 0#32
  let v53 : BitVec 1 := Scalar.cmpi .slt v51 c0_i32_31
  let c0_i32_32 : BitVec 32 := 0#32
  let v54 : BitVec 1 := Scalar.cmpi .slt v50 c0_i32_32
  let v55 : BitVec 1 := Scalar.xori v53 v54
  let c0_i32_30 : BitVec 32 := 0#32
  let v52 : BitVec 1 := Scalar.cmpi .ne v51 c0_i32_30
  let v56 : BitVec 1 := Scalar.andi v55 v52
  let v57 : BitVec 32 := Scalar.addi v51 v50
  let v58 : BitVec 32 := Scalar.select v56 v57 v51
  let c1_i32_34 : BitVec 32 := 1#32
  let v61 : BitVec 32 := Scalar.muli v58 c1_i32_34
  let v62 : BitVec 32 := Scalar.addi c0_i32_35 v61
  v62.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v63 : BitVec 32 := Scalar.addi v2 c5_i32
  let c16_i32_36 : BitVec 32 := 16#32
  let c0_i32_37 : BitVec 32 := 0#32
  let v64 : BitVec 1 := Scalar.cmpi .eq c16_i32_36 c0_i32_37
  let c1_i32_38 : BitVec 32 := 1#32
  let v65 : BitVec 32 := Scalar.select v64 c1_i32_38 c16_i32_36
  let v66 : BitVec 32 := Scalar.remsi v63 v65
  let c0_i32_40 : BitVec 32 := 0#32
  let v68 : BitVec 1 := Scalar.cmpi .slt v66 c0_i32_40
  let c0_i32_41 : BitVec 32 := 0#32
  let v69 : BitVec 1 := Scalar.cmpi .slt v65 c0_i32_41
  let v70 : BitVec 1 := Scalar.xori v68 v69
  let c0_i32_39 : BitVec 32 := 0#32
  let v67 : BitVec 1 := Scalar.cmpi .ne v66 c0_i32_39
  let v71 : BitVec 1 := Scalar.andi v70 v67
  let v72 : BitVec 32 := Scalar.addi v66 v65
  let v73 : BitVec 32 := Scalar.select v71 v72 v66
  let c1_i32_43 : BitVec 32 := 1#32
  let v76 : BitVec 32 := Scalar.muli v73 c1_i32_43
  let v77 : BitVec 32 := Scalar.addi c0_i32_44 v76
  v77.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v78 : BitVec 32 := Scalar.addi v2 c6_i32
  let c16_i32_45 : BitVec 32 := 16#32
  let c0_i32_46 : BitVec 32 := 0#32
  let v79 : BitVec 1 := Scalar.cmpi .eq c16_i32_45 c0_i32_46
  let c1_i32_47 : BitVec 32 := 1#32
  let v80 : BitVec 32 := Scalar.select v79 c1_i32_47 c16_i32_45
  let v81 : BitVec 32 := Scalar.remsi v78 v80
  let c0_i32_49 : BitVec 32 := 0#32
  let v83 : BitVec 1 := Scalar.cmpi .slt v81 c0_i32_49
  let c0_i32_50 : BitVec 32 := 0#32
  let v84 : BitVec 1 := Scalar.cmpi .slt v80 c0_i32_50
  let v85 : BitVec 1 := Scalar.xori v83 v84
  let c0_i32_48 : BitVec 32 := 0#32
  let v82 : BitVec 1 := Scalar.cmpi .ne v81 c0_i32_48
  let v86 : BitVec 1 := Scalar.andi v85 v82
  let v87 : BitVec 32 := Scalar.addi v81 v80
  let v88 : BitVec 32 := Scalar.select v86 v87 v81
  let c1_i32_52 : BitVec 32 := 1#32
  let v91 : BitVec 32 := Scalar.muli v88 c1_i32_52
  let v92 : BitVec 32 := Scalar.addi c0_i32_53 v91
  v92.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v93 : BitVec 32 := Scalar.addi v2 c7_i32
  let c16_i32_54 : BitVec 32 := 16#32
  let c0_i32_55 : BitVec 32 := 0#32
  let v94 : BitVec 1 := Scalar.cmpi .eq c16_i32_54 c0_i32_55
  let c1_i32_56 : BitVec 32 := 1#32
  let v95 : BitVec 32 := Scalar.select v94 c1_i32_56 c16_i32_54
  let v96 : BitVec 32 := Scalar.remsi v93 v95
  let c0_i32_58 : BitVec 32 := 0#32
  let v98 : BitVec 1 := Scalar.cmpi .slt v96 c0_i32_58
  let c0_i32_59 : BitVec 32 := 0#32
  let v99 : BitVec 1 := Scalar.cmpi .slt v95 c0_i32_59
  let v100 : BitVec 1 := Scalar.xori v98 v99
  let c0_i32_57 : BitVec 32 := 0#32
  let v97 : BitVec 1 := Scalar.cmpi .ne v96 c0_i32_57
  let v101 : BitVec 1 := Scalar.andi v100 v97
  let v102 : BitVec 32 := Scalar.addi v96 v95
  let v103 : BitVec 32 := Scalar.select v101 v102 v96
  let c1_i32_61 : BitVec 32 := 1#32
  let v106 : BitVec 32 := Scalar.muli v103 c1_i32_61
  let v107 : BitVec 32 := Scalar.addi c0_i32_62 v106
  v107.toNat
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v108 : BitVec 32 := Scalar.addi v2 c8_i32
  let c16_i32_63 : BitVec 32 := 16#32
  let c0_i32_64 : BitVec 32 := 0#32
  let v109 : BitVec 1 := Scalar.cmpi .eq c16_i32_63 c0_i32_64
  let c1_i32_65 : BitVec 32 := 1#32
  let v110 : BitVec 32 := Scalar.select v109 c1_i32_65 c16_i32_63
  let v111 : BitVec 32 := Scalar.remsi v108 v110
  let c0_i32_67 : BitVec 32 := 0#32
  let v113 : BitVec 1 := Scalar.cmpi .slt v111 c0_i32_67
  let c0_i32_68 : BitVec 32 := 0#32
  let v114 : BitVec 1 := Scalar.cmpi .slt v110 c0_i32_68
  let v115 : BitVec 1 := Scalar.xori v113 v114
  let c0_i32_66 : BitVec 32 := 0#32
  let v112 : BitVec 1 := Scalar.cmpi .ne v111 c0_i32_66
  let v116 : BitVec 1 := Scalar.andi v115 v112
  let v117 : BitVec 32 := Scalar.addi v111 v110
  let v118 : BitVec 32 := Scalar.select v116 v117 v111
  let c1_i32_71 : BitVec 32 := 1#32
  let v121 : BitVec 32 := Scalar.muli v118 c1_i32_71
  let v122 : BitVec 32 := Scalar.addi c0_i32_72 v121
  v122.toNat
def k0_dev9 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_73 : BitVec 32 := 9#32
  let v123 : BitVec 32 := Scalar.addi v2 c9_i32_73
  let c16_i32_74 : BitVec 32 := 16#32
  let c0_i32_75 : BitVec 32 := 0#32
  let v124 : BitVec 1 := Scalar.cmpi .eq c16_i32_74 c0_i32_75
  let c1_i32_76 : BitVec 32 := 1#32
  let v125 : BitVec 32 := Scalar.select v124 c1_i32_76 c16_i32_74
  let v126 : BitVec 32 := Scalar.remsi v123 v125
  let c0_i32_78 : BitVec 32 := 0#32
  let v128 : BitVec 1 := Scalar.cmpi .slt v126 c0_i32_78
  let c0_i32_79 : BitVec 32 := 0#32
  let v129 : BitVec 1 := Scalar.cmpi .slt v125 c0_i32_79
  let v130 : BitVec 1 := Scalar.xori v128 v129
  let c0_i32_77 : BitVec 32 := 0#32
  let v127 : BitVec 1 := Scalar.cmpi .ne v126 c0_i32_77
  let v131 : BitVec 1 := Scalar.andi v130 v127
  let v132 : BitVec 32 := Scalar.addi v126 v125
  let v133 : BitVec 32 := Scalar.select v131 v132 v126
  let c1_i32_82 : BitVec 32 := 1#32
  let v136 : BitVec 32 := Scalar.muli v133 c1_i32_82
  let v137 : BitVec 32 := Scalar.addi c0_i32_83 v136
  v137.toNat
def k0_dev10 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_84 : BitVec 32 := 10#32
  let v138 : BitVec 32 := Scalar.addi v2 c10_i32_84
  let c16_i32_85 : BitVec 32 := 16#32
  let c0_i32_86 : BitVec 32 := 0#32
  let v139 : BitVec 1 := Scalar.cmpi .eq c16_i32_85 c0_i32_86
  let c1_i32_87 : BitVec 32 := 1#32
  let v140 : BitVec 32 := Scalar.select v139 c1_i32_87 c16_i32_85
  let v141 : BitVec 32 := Scalar.remsi v138 v140
  let c0_i32_89 : BitVec 32 := 0#32
  let v143 : BitVec 1 := Scalar.cmpi .slt v141 c0_i32_89
  let c0_i32_90 : BitVec 32 := 0#32
  let v144 : BitVec 1 := Scalar.cmpi .slt v140 c0_i32_90
  let v145 : BitVec 1 := Scalar.xori v143 v144
  let c0_i32_88 : BitVec 32 := 0#32
  let v142 : BitVec 1 := Scalar.cmpi .ne v141 c0_i32_88
  let v146 : BitVec 1 := Scalar.andi v145 v142
  let v147 : BitVec 32 := Scalar.addi v141 v140
  let v148 : BitVec 32 := Scalar.select v146 v147 v141
  let c1_i32_93 : BitVec 32 := 1#32
  let v151 : BitVec 32 := Scalar.muli v148 c1_i32_93
  let v152 : BitVec 32 := Scalar.addi c0_i32_94 v151
  v152.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_95 : BitVec 32 := 11#32
  let v153 : BitVec 32 := Scalar.addi v2 c11_i32_95
  let c16_i32_96 : BitVec 32 := 16#32
  let c0_i32_97 : BitVec 32 := 0#32
  let v154 : BitVec 1 := Scalar.cmpi .eq c16_i32_96 c0_i32_97
  let c1_i32_98 : BitVec 32 := 1#32
  let v155 : BitVec 32 := Scalar.select v154 c1_i32_98 c16_i32_96
  let v156 : BitVec 32 := Scalar.remsi v153 v155
  let c0_i32_100 : BitVec 32 := 0#32
  let v158 : BitVec 1 := Scalar.cmpi .slt v156 c0_i32_100
  let c0_i32_101 : BitVec 32 := 0#32
  let v159 : BitVec 1 := Scalar.cmpi .slt v155 c0_i32_101
  let v160 : BitVec 1 := Scalar.xori v158 v159
  let c0_i32_99 : BitVec 32 := 0#32
  let v157 : BitVec 1 := Scalar.cmpi .ne v156 c0_i32_99
  let v161 : BitVec 1 := Scalar.andi v160 v157
  let v162 : BitVec 32 := Scalar.addi v156 v155
  let v163 : BitVec 32 := Scalar.select v161 v162 v156
  let c1_i32_104 : BitVec 32 := 1#32
  let v166 : BitVec 32 := Scalar.muli v163 c1_i32_104
  let v167 : BitVec 32 := Scalar.addi c0_i32_105 v166
  v167.toNat
def k0_dev12 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_106 : BitVec 32 := 12#32
  let v168 : BitVec 32 := Scalar.addi v2 c12_i32_106
  let c16_i32_107 : BitVec 32 := 16#32
  let c0_i32_108 : BitVec 32 := 0#32
  let v169 : BitVec 1 := Scalar.cmpi .eq c16_i32_107 c0_i32_108
  let c1_i32_109 : BitVec 32 := 1#32
  let v170 : BitVec 32 := Scalar.select v169 c1_i32_109 c16_i32_107
  let v171 : BitVec 32 := Scalar.remsi v168 v170
  let c0_i32_111 : BitVec 32 := 0#32
  let v173 : BitVec 1 := Scalar.cmpi .slt v171 c0_i32_111
  let c0_i32_112 : BitVec 32 := 0#32
  let v174 : BitVec 1 := Scalar.cmpi .slt v170 c0_i32_112
  let v175 : BitVec 1 := Scalar.xori v173 v174
  let c0_i32_110 : BitVec 32 := 0#32
  let v172 : BitVec 1 := Scalar.cmpi .ne v171 c0_i32_110
  let v176 : BitVec 1 := Scalar.andi v175 v172
  let v177 : BitVec 32 := Scalar.addi v171 v170
  let v178 : BitVec 32 := Scalar.select v176 v177 v171
  let c1_i32_115 : BitVec 32 := 1#32
  let v181 : BitVec 32 := Scalar.muli v178 c1_i32_115
  let v182 : BitVec 32 := Scalar.addi c0_i32_116 v181
  v182.toNat
def k0_dev13 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_117 : BitVec 32 := 13#32
  let v183 : BitVec 32 := Scalar.addi v2 c13_i32_117
  let c16_i32_118 : BitVec 32 := 16#32
  let c0_i32_119 : BitVec 32 := 0#32
  let v184 : BitVec 1 := Scalar.cmpi .eq c16_i32_118 c0_i32_119
  let c1_i32_120 : BitVec 32 := 1#32
  let v185 : BitVec 32 := Scalar.select v184 c1_i32_120 c16_i32_118
  let v186 : BitVec 32 := Scalar.remsi v183 v185
  let c0_i32_122 : BitVec 32 := 0#32
  let v188 : BitVec 1 := Scalar.cmpi .slt v186 c0_i32_122
  let c0_i32_123 : BitVec 32 := 0#32
  let v189 : BitVec 1 := Scalar.cmpi .slt v185 c0_i32_123
  let v190 : BitVec 1 := Scalar.xori v188 v189
  let c0_i32_121 : BitVec 32 := 0#32
  let v187 : BitVec 1 := Scalar.cmpi .ne v186 c0_i32_121
  let v191 : BitVec 1 := Scalar.andi v190 v187
  let v192 : BitVec 32 := Scalar.addi v186 v185
  let v193 : BitVec 32 := Scalar.select v191 v192 v186
  let c1_i32_126 : BitVec 32 := 1#32
  let v196 : BitVec 32 := Scalar.muli v193 c1_i32_126
  let v197 : BitVec 32 := Scalar.addi c0_i32_127 v196
  v197.toNat
def k0_dev14 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_128 : BitVec 32 := 14#32
  let v198 : BitVec 32 := Scalar.addi v2 c14_i32_128
  let c16_i32_129 : BitVec 32 := 16#32
  let c0_i32_130 : BitVec 32 := 0#32
  let v199 : BitVec 1 := Scalar.cmpi .eq c16_i32_129 c0_i32_130
  let c1_i32_131 : BitVec 32 := 1#32
  let v200 : BitVec 32 := Scalar.select v199 c1_i32_131 c16_i32_129
  let v201 : BitVec 32 := Scalar.remsi v198 v200
  let c0_i32_133 : BitVec 32 := 0#32
  let v203 : BitVec 1 := Scalar.cmpi .slt v201 c0_i32_133
  let c0_i32_134 : BitVec 32 := 0#32
  let v204 : BitVec 1 := Scalar.cmpi .slt v200 c0_i32_134
  let v205 : BitVec 1 := Scalar.xori v203 v204
  let c0_i32_132 : BitVec 32 := 0#32
  let v202 : BitVec 1 := Scalar.cmpi .ne v201 c0_i32_132
  let v206 : BitVec 1 := Scalar.andi v205 v202
  let v207 : BitVec 32 := Scalar.addi v201 v200
  let v208 : BitVec 32 := Scalar.select v206 v207 v201
  let c1_i32_137 : BitVec 32 := 1#32
  let v211 : BitVec 32 := Scalar.muli v208 c1_i32_137
  let v212 : BitVec 32 := Scalar.addi c0_i32_138 v211
  v212.toNat
def k0_dev15 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_139 : BitVec 32 := 15#32
  let v213 : BitVec 32 := Scalar.addi v2 c15_i32_139
  let c16_i32_140 : BitVec 32 := 16#32
  let c0_i32_141 : BitVec 32 := 0#32
  let v214 : BitVec 1 := Scalar.cmpi .eq c16_i32_140 c0_i32_141
  let c1_i32_142 : BitVec 32 := 1#32
  let v215 : BitVec 32 := Scalar.select v214 c1_i32_142 c16_i32_140
  let v216 : BitVec 32 := Scalar.remsi v213 v215
  let c0_i32_144 : BitVec 32 := 0#32
  let v218 : BitVec 1 := Scalar.cmpi .slt v216 c0_i32_144
  let c0_i32_145 : BitVec 32 := 0#32
  let v219 : BitVec 1 := Scalar.cmpi .slt v215 c0_i32_145
  let v220 : BitVec 1 := Scalar.xori v218 v219
  let c0_i32_143 : BitVec 32 := 0#32
  let v217 : BitVec 1 := Scalar.cmpi .ne v216 c0_i32_143
  let v221 : BitVec 1 := Scalar.andi v220 v217
  let v222 : BitVec 32 := Scalar.addi v216 v215
  let v223 : BitVec 32 := Scalar.select v221 v222 v216
  let c1_i32_148 : BitVec 32 := 1#32
  let v226 : BitVec 32 := Scalar.muli v223 c1_i32_148
  let v227 : BitVec 32 := Scalar.addi c0_i32_149 v226
  v227.toNat
def k0_off1 (d0 : Dev nD) (c0_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_196 : BitVec 32 := 1#32
  let v304 : BitVec 32 := Scalar.addi v2 c1_i32_196
  let v305 : BitVec 32 := Scalar.addi v304 c0_i32_197
  let c16_i32_198 : BitVec 32 := 16#32
  let c0_i32_199 : BitVec 32 := 0#32
  let v306 : BitVec 1 := Scalar.cmpi .eq c16_i32_198 c0_i32_199
  let c1_i32_200 : BitVec 32 := 1#32
  let v307 : BitVec 32 := Scalar.select v306 c1_i32_200 c16_i32_198
  let v308 : BitVec 32 := Scalar.remsi v305 v307
  let c0_i32_202 : BitVec 32 := 0#32
  let v310 : BitVec 1 := Scalar.cmpi .slt v308 c0_i32_202
  let c0_i32_203 : BitVec 32 := 0#32
  let v311 : BitVec 1 := Scalar.cmpi .slt v307 c0_i32_203
  let v312 : BitVec 1 := Scalar.xori v310 v311
  let c0_i32_201 : BitVec 32 := 0#32
  let v309 : BitVec 1 := Scalar.cmpi .ne v308 c0_i32_201
  let v313 : BitVec 1 := Scalar.andi v312 v309
  let v314 : BitVec 32 := Scalar.addi v308 v307
  let v315 : BitVec 32 := Scalar.select v313 v314 v308
  let c32_i32 : BitVec 32 := 32#32
  let v316 : BitVec 32 := Scalar.muli v315 c32_i32
  let v317 : Index := Scalar.indexCast v316
  let c0_204 : Index := 0#32
  ![v317.toNat, 0]
def k0_off2 (d0 : Dev nD) (c0_i32_197 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_196 : BitVec 32 := 1#32
  let v304 : BitVec 32 := Scalar.addi v2 c1_i32_196
  let v305 : BitVec 32 := Scalar.addi v304 c0_i32_197
  let c16_i32_198 : BitVec 32 := 16#32
  let c0_i32_199 : BitVec 32 := 0#32
  let v306 : BitVec 1 := Scalar.cmpi .eq c16_i32_198 c0_i32_199
  let c1_i32_200 : BitVec 32 := 1#32
  let v307 : BitVec 32 := Scalar.select v306 c1_i32_200 c16_i32_198
  let v308 : BitVec 32 := Scalar.remsi v305 v307
  let c0_i32_202 : BitVec 32 := 0#32
  let v310 : BitVec 1 := Scalar.cmpi .slt v308 c0_i32_202
  let c0_i32_203 : BitVec 32 := 0#32
  let v311 : BitVec 1 := Scalar.cmpi .slt v307 c0_i32_203
  let v312 : BitVec 1 := Scalar.xori v310 v311
  let c0_i32_201 : BitVec 32 := 0#32
  let v309 : BitVec 1 := Scalar.cmpi .ne v308 c0_i32_201
  let v313 : BitVec 1 := Scalar.andi v312 v309
  let v314 : BitVec 32 := Scalar.addi v308 v307
  let v315 : BitVec 32 := Scalar.select v313 v314 v308
  let c32_i32_205 : BitVec 32 := 32#32
  let v320 : BitVec 32 := Scalar.muli v315 c32_i32_205
  let v321 : Index := Scalar.indexCast v320
  let c0_206 : Index := 0#32
  ![v321.toNat, 0]
def k0_dev16 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_432 : BitVec 32 := 5#32
  let v907 : BitVec 32 := Scalar.addi v2 c5_i32_432
  let c16_i32_433 : BitVec 32 := 16#32
  let c0_i32_434 : BitVec 32 := 0#32
  let v908 : BitVec 1 := Scalar.cmpi .eq c16_i32_433 c0_i32_434
  let c1_i32_435 : BitVec 32 := 1#32
  let v909 : BitVec 32 := Scalar.select v908 c1_i32_435 c16_i32_433
  let v910 : BitVec 32 := Scalar.remsi v907 v909
  let c0_i32_437 : BitVec 32 := 0#32
  let v912 : BitVec 1 := Scalar.cmpi .slt v910 c0_i32_437
  let c0_i32_438 : BitVec 32 := 0#32
  let v913 : BitVec 1 := Scalar.cmpi .slt v909 c0_i32_438
  let v914 : BitVec 1 := Scalar.xori v912 v913
  let c0_i32_436 : BitVec 32 := 0#32
  let v911 : BitVec 1 := Scalar.cmpi .ne v910 c0_i32_436
  let v915 : BitVec 1 := Scalar.andi v914 v911
  let v916 : BitVec 32 := Scalar.addi v910 v909
  let v917 : BitVec 32 := Scalar.select v915 v916 v910
  let c1_i32_442 : BitVec 32 := 1#32
  let v918 : BitVec 32 := Scalar.muli v917 c1_i32_442
  let v919 : BitVec 32 := Scalar.addi c0_i32_443 v918
  v919.toNat
def k0_dev17 (d0 : Dev nD) : Nat :=
  let c0_i32_461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_450 : BitVec 32 := 6#32
  let v929 : BitVec 32 := Scalar.addi v2 c6_i32_450
  let c16_i32_451 : BitVec 32 := 16#32
  let c0_i32_452 : BitVec 32 := 0#32
  let v930 : BitVec 1 := Scalar.cmpi .eq c16_i32_451 c0_i32_452
  let c1_i32_453 : BitVec 32 := 1#32
  let v931 : BitVec 32 := Scalar.select v930 c1_i32_453 c16_i32_451
  let v932 : BitVec 32 := Scalar.remsi v929 v931
  let c0_i32_455 : BitVec 32 := 0#32
  let v934 : BitVec 1 := Scalar.cmpi .slt v932 c0_i32_455
  let c0_i32_456 : BitVec 32 := 0#32
  let v935 : BitVec 1 := Scalar.cmpi .slt v931 c0_i32_456
  let v936 : BitVec 1 := Scalar.xori v934 v935
  let c0_i32_454 : BitVec 32 := 0#32
  let v933 : BitVec 1 := Scalar.cmpi .ne v932 c0_i32_454
  let v937 : BitVec 1 := Scalar.andi v936 v933
  let v938 : BitVec 32 := Scalar.addi v932 v931
  let v939 : BitVec 32 := Scalar.select v937 v938 v932
  let c1_i32_460 : BitVec 32 := 1#32
  let v940 : BitVec 32 := Scalar.muli v939 c1_i32_460
  let v941 : BitVec 32 := Scalar.addi c0_i32_461 v940
  v941.toNat
def k0_dev18 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_468 : BitVec 32 := 7#32
  let v951 : BitVec 32 := Scalar.addi v2 c7_i32_468
  let c16_i32_469 : BitVec 32 := 16#32
  let c0_i32_470 : BitVec 32 := 0#32
  let v952 : BitVec 1 := Scalar.cmpi .eq c16_i32_469 c0_i32_470
  let c1_i32_471 : BitVec 32 := 1#32
  let v953 : BitVec 32 := Scalar.select v952 c1_i32_471 c16_i32_469
  let v954 : BitVec 32 := Scalar.remsi v951 v953
  let c0_i32_473 : BitVec 32 := 0#32
  let v956 : BitVec 1 := Scalar.cmpi .slt v954 c0_i32_473
  let c0_i32_474 : BitVec 32 := 0#32
  let v957 : BitVec 1 := Scalar.cmpi .slt v953 c0_i32_474
  let v958 : BitVec 1 := Scalar.xori v956 v957
  let c0_i32_472 : BitVec 32 := 0#32
  let v955 : BitVec 1 := Scalar.cmpi .ne v954 c0_i32_472
  let v959 : BitVec 1 := Scalar.andi v958 v955
  let v960 : BitVec 32 := Scalar.addi v954 v953
  let v961 : BitVec 32 := Scalar.select v959 v960 v954
  let c1_i32_478 : BitVec 32 := 1#32
  let v962 : BitVec 32 := Scalar.muli v961 c1_i32_478
  let v963 : BitVec 32 := Scalar.addi c0_i32_479 v962
  v963.toNat
def k0_dev19 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_486 : BitVec 32 := 8#32
  let v973 : BitVec 32 := Scalar.addi v2 c8_i32_486
  let c16_i32_487 : BitVec 32 := 16#32
  let c0_i32_488 : BitVec 32 := 0#32
  let v974 : BitVec 1 := Scalar.cmpi .eq c16_i32_487 c0_i32_488
  let c1_i32_489 : BitVec 32 := 1#32
  let v975 : BitVec 32 := Scalar.select v974 c1_i32_489 c16_i32_487
  let v976 : BitVec 32 := Scalar.remsi v973 v975
  let c0_i32_491 : BitVec 32 := 0#32
  let v978 : BitVec 1 := Scalar.cmpi .slt v976 c0_i32_491
  let c0_i32_492 : BitVec 32 := 0#32
  let v979 : BitVec 1 := Scalar.cmpi .slt v975 c0_i32_492
  let v980 : BitVec 1 := Scalar.xori v978 v979
  let c0_i32_490 : BitVec 32 := 0#32
  let v977 : BitVec 1 := Scalar.cmpi .ne v976 c0_i32_490
  let v981 : BitVec 1 := Scalar.andi v980 v977
  let v982 : BitVec 32 := Scalar.addi v976 v975
  let v983 : BitVec 32 := Scalar.select v981 v982 v976
  let c1_i32_496 : BitVec 32 := 1#32
  let v984 : BitVec 32 := Scalar.muli v983 c1_i32_496
  let v985 : BitVec 32 := Scalar.addi c0_i32_497 v984
  v985.toNat
def k0_dev20 (d0 : Dev nD) : Nat :=
  let c0_i32_542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_531 : BitVec 32 := 9#32
  let v1020 : BitVec 32 := Scalar.addi v2 c9_i32_531
  let c16_i32_532 : BitVec 32 := 16#32
  let c0_i32_533 : BitVec 32 := 0#32
  let v1021 : BitVec 1 := Scalar.cmpi .eq c16_i32_532 c0_i32_533
  let c1_i32_534 : BitVec 32 := 1#32
  let v1022 : BitVec 32 := Scalar.select v1021 c1_i32_534 c16_i32_532
  let v1023 : BitVec 32 := Scalar.remsi v1020 v1022
  let c0_i32_536 : BitVec 32 := 0#32
  let v1025 : BitVec 1 := Scalar.cmpi .slt v1023 c0_i32_536
  let c0_i32_537 : BitVec 32 := 0#32
  let v1026 : BitVec 1 := Scalar.cmpi .slt v1022 c0_i32_537
  let v1027 : BitVec 1 := Scalar.xori v1025 v1026
  let c0_i32_535 : BitVec 32 := 0#32
  let v1024 : BitVec 1 := Scalar.cmpi .ne v1023 c0_i32_535
  let v1028 : BitVec 1 := Scalar.andi v1027 v1024
  let v1029 : BitVec 32 := Scalar.addi v1023 v1022
  let v1030 : BitVec 32 := Scalar.select v1028 v1029 v1023
  let c1_i32_541 : BitVec 32 := 1#32
  let v1031 : BitVec 32 := Scalar.muli v1030 c1_i32_541
  let v1032 : BitVec 32 := Scalar.addi c0_i32_542 v1031
  v1032.toNat
def k0_dev21 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_549 : BitVec 32 := 10#32
  let v1042 : BitVec 32 := Scalar.addi v2 c10_i32_549
  let c16_i32_550 : BitVec 32 := 16#32
  let c0_i32_551 : BitVec 32 := 0#32
  let v1043 : BitVec 1 := Scalar.cmpi .eq c16_i32_550 c0_i32_551
  let c1_i32_552 : BitVec 32 := 1#32
  let v1044 : BitVec 32 := Scalar.select v1043 c1_i32_552 c16_i32_550
  let v1045 : BitVec 32 := Scalar.remsi v1042 v1044
  let c0_i32_554 : BitVec 32 := 0#32
  let v1047 : BitVec 1 := Scalar.cmpi .slt v1045 c0_i32_554
  let c0_i32_555 : BitVec 32 := 0#32
  let v1048 : BitVec 1 := Scalar.cmpi .slt v1044 c0_i32_555
  let v1049 : BitVec 1 := Scalar.xori v1047 v1048
  let c0_i32_553 : BitVec 32 := 0#32
  let v1046 : BitVec 1 := Scalar.cmpi .ne v1045 c0_i32_553
  let v1050 : BitVec 1 := Scalar.andi v1049 v1046
  let v1051 : BitVec 32 := Scalar.addi v1045 v1044
  let v1052 : BitVec 32 := Scalar.select v1050 v1051 v1045
  let c1_i32_559 : BitVec 32 := 1#32
  let v1053 : BitVec 32 := Scalar.muli v1052 c1_i32_559
  let v1054 : BitVec 32 := Scalar.addi c0_i32_560 v1053
  v1054.toNat
def k0_dev22 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_567 : BitVec 32 := 11#32
  let v1064 : BitVec 32 := Scalar.addi v2 c11_i32_567
  let c16_i32_568 : BitVec 32 := 16#32
  let c0_i32_569 : BitVec 32 := 0#32
  let v1065 : BitVec 1 := Scalar.cmpi .eq c16_i32_568 c0_i32_569
  let c1_i32_570 : BitVec 32 := 1#32
  let v1066 : BitVec 32 := Scalar.select v1065 c1_i32_570 c16_i32_568
  let v1067 : BitVec 32 := Scalar.remsi v1064 v1066
  let c0_i32_572 : BitVec 32 := 0#32
  let v1069 : BitVec 1 := Scalar.cmpi .slt v1067 c0_i32_572
  let c0_i32_573 : BitVec 32 := 0#32
  let v1070 : BitVec 1 := Scalar.cmpi .slt v1066 c0_i32_573
  let v1071 : BitVec 1 := Scalar.xori v1069 v1070
  let c0_i32_571 : BitVec 32 := 0#32
  let v1068 : BitVec 1 := Scalar.cmpi .ne v1067 c0_i32_571
  let v1072 : BitVec 1 := Scalar.andi v1071 v1068
  let v1073 : BitVec 32 := Scalar.addi v1067 v1066
  let v1074 : BitVec 32 := Scalar.select v1072 v1073 v1067
  let c1_i32_577 : BitVec 32 := 1#32
  let v1075 : BitVec 32 := Scalar.muli v1074 c1_i32_577
  let v1076 : BitVec 32 := Scalar.addi c0_i32_578 v1075
  v1076.toNat
def k0_dev23 (d0 : Dev nD) : Nat :=
  let c0_i32_596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_585 : BitVec 32 := 12#32
  let v1086 : BitVec 32 := Scalar.addi v2 c12_i32_585
  let c16_i32_586 : BitVec 32 := 16#32
  let c0_i32_587 : BitVec 32 := 0#32
  let v1087 : BitVec 1 := Scalar.cmpi .eq c16_i32_586 c0_i32_587
  let c1_i32_588 : BitVec 32 := 1#32
  let v1088 : BitVec 32 := Scalar.select v1087 c1_i32_588 c16_i32_586
  let v1089 : BitVec 32 := Scalar.remsi v1086 v1088
  let c0_i32_590 : BitVec 32 := 0#32
  let v1091 : BitVec 1 := Scalar.cmpi .slt v1089 c0_i32_590
  let c0_i32_591 : BitVec 32 := 0#32
  let v1092 : BitVec 1 := Scalar.cmpi .slt v1088 c0_i32_591
  let v1093 : BitVec 1 := Scalar.xori v1091 v1092
  let c0_i32_589 : BitVec 32 := 0#32
  let v1090 : BitVec 1 := Scalar.cmpi .ne v1089 c0_i32_589
  let v1094 : BitVec 1 := Scalar.andi v1093 v1090
  let v1095 : BitVec 32 := Scalar.addi v1089 v1088
  let v1096 : BitVec 32 := Scalar.select v1094 v1095 v1089
  let c1_i32_595 : BitVec 32 := 1#32
  let v1097 : BitVec 32 := Scalar.muli v1096 c1_i32_595
  let v1098 : BitVec 32 := Scalar.addi c0_i32_596 v1097
  v1098.toNat
def k0_dev24 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_630 : BitVec 32 := 1#32
  let v1133 : BitVec 32 := Scalar.addi v2 c1_i32_630
  let c16_i32_631 : BitVec 32 := 16#32
  let c0_i32_632 : BitVec 32 := 0#32
  let v1134 : BitVec 1 := Scalar.cmpi .eq c16_i32_631 c0_i32_632
  let c1_i32_633 : BitVec 32 := 1#32
  let v1135 : BitVec 32 := Scalar.select v1134 c1_i32_633 c16_i32_631
  let v1136 : BitVec 32 := Scalar.remsi v1133 v1135
  let c0_i32_635 : BitVec 32 := 0#32
  let v1138 : BitVec 1 := Scalar.cmpi .slt v1136 c0_i32_635
  let c0_i32_636 : BitVec 32 := 0#32
  let v1139 : BitVec 1 := Scalar.cmpi .slt v1135 c0_i32_636
  let v1140 : BitVec 1 := Scalar.xori v1138 v1139
  let c0_i32_634 : BitVec 32 := 0#32
  let v1137 : BitVec 1 := Scalar.cmpi .ne v1136 c0_i32_634
  let v1141 : BitVec 1 := Scalar.andi v1140 v1137
  let v1142 : BitVec 32 := Scalar.addi v1136 v1135
  let v1143 : BitVec 32 := Scalar.select v1141 v1142 v1136
  let c1_i32_640 : BitVec 32 := 1#32
  let v1144 : BitVec 32 := Scalar.muli v1143 c1_i32_640
  let v1145 : BitVec 32 := Scalar.addi c0_i32_641 v1144
  v1145.toNat
def k0_dev25 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_649 : BitVec 32 := 2#32
  let v1155 : BitVec 32 := Scalar.addi v2 c2_i32_649
  let c16_i32_650 : BitVec 32 := 16#32
  let c0_i32_651 : BitVec 32 := 0#32
  let v1156 : BitVec 1 := Scalar.cmpi .eq c16_i32_650 c0_i32_651
  let c1_i32_652 : BitVec 32 := 1#32
  let v1157 : BitVec 32 := Scalar.select v1156 c1_i32_652 c16_i32_650
  let v1158 : BitVec 32 := Scalar.remsi v1155 v1157
  let c0_i32_654 : BitVec 32 := 0#32
  let v1160 : BitVec 1 := Scalar.cmpi .slt v1158 c0_i32_654
  let c0_i32_655 : BitVec 32 := 0#32
  let v1161 : BitVec 1 := Scalar.cmpi .slt v1157 c0_i32_655
  let v1162 : BitVec 1 := Scalar.xori v1160 v1161
  let c0_i32_653 : BitVec 32 := 0#32
  let v1159 : BitVec 1 := Scalar.cmpi .ne v1158 c0_i32_653
  let v1163 : BitVec 1 := Scalar.andi v1162 v1159
  let v1164 : BitVec 32 := Scalar.addi v1158 v1157
  let v1165 : BitVec 32 := Scalar.select v1163 v1164 v1158
  let c1_i32_659 : BitVec 32 := 1#32
  let v1166 : BitVec 32 := Scalar.muli v1165 c1_i32_659
  let v1167 : BitVec 32 := Scalar.addi c0_i32_660 v1166
  v1167.toNat
def k0_dev26 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_668 : BitVec 32 := 3#32
  let v1177 : BitVec 32 := Scalar.addi v2 c3_i32_668
  let c16_i32_669 : BitVec 32 := 16#32
  let c0_i32_670 : BitVec 32 := 0#32
  let v1178 : BitVec 1 := Scalar.cmpi .eq c16_i32_669 c0_i32_670
  let c1_i32_671 : BitVec 32 := 1#32
  let v1179 : BitVec 32 := Scalar.select v1178 c1_i32_671 c16_i32_669
  let v1180 : BitVec 32 := Scalar.remsi v1177 v1179
  let c0_i32_673 : BitVec 32 := 0#32
  let v1182 : BitVec 1 := Scalar.cmpi .slt v1180 c0_i32_673
  let c0_i32_674 : BitVec 32 := 0#32
  let v1183 : BitVec 1 := Scalar.cmpi .slt v1179 c0_i32_674
  let v1184 : BitVec 1 := Scalar.xori v1182 v1183
  let c0_i32_672 : BitVec 32 := 0#32
  let v1181 : BitVec 1 := Scalar.cmpi .ne v1180 c0_i32_672
  let v1185 : BitVec 1 := Scalar.andi v1184 v1181
  let v1186 : BitVec 32 := Scalar.addi v1180 v1179
  let v1187 : BitVec 32 := Scalar.select v1185 v1186 v1180
  let c1_i32_678 : BitVec 32 := 1#32
  let v1188 : BitVec 32 := Scalar.muli v1187 c1_i32_678
  let v1189 : BitVec 32 := Scalar.addi c0_i32_679 v1188
  v1189.toNat
def k0_dev27 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_686 : BitVec 32 := 4#32
  let v1199 : BitVec 32 := Scalar.addi v2 c4_i32_686
  let c16_i32_687 : BitVec 32 := 16#32
  let c0_i32_688 : BitVec 32 := 0#32
  let v1200 : BitVec 1 := Scalar.cmpi .eq c16_i32_687 c0_i32_688
  let c1_i32_689 : BitVec 32 := 1#32
  let v1201 : BitVec 32 := Scalar.select v1200 c1_i32_689 c16_i32_687
  let v1202 : BitVec 32 := Scalar.remsi v1199 v1201
  let c0_i32_691 : BitVec 32 := 0#32
  let v1204 : BitVec 1 := Scalar.cmpi .slt v1202 c0_i32_691
  let c0_i32_692 : BitVec 32 := 0#32
  let v1205 : BitVec 1 := Scalar.cmpi .slt v1201 c0_i32_692
  let v1206 : BitVec 1 := Scalar.xori v1204 v1205
  let c0_i32_690 : BitVec 32 := 0#32
  let v1203 : BitVec 1 := Scalar.cmpi .ne v1202 c0_i32_690
  let v1207 : BitVec 1 := Scalar.andi v1206 v1203
  let v1208 : BitVec 32 := Scalar.addi v1202 v1201
  let v1209 : BitVec 32 := Scalar.select v1207 v1208 v1202
  let c1_i32_696 : BitVec 32 := 1#32
  let v1210 : BitVec 32 := Scalar.muli v1209 c1_i32_696
  let v1211 : BitVec 32 := Scalar.addi c0_i32_697 v1210
  v1211.toNat
def k0_dev28 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_731 : BitVec 32 := 13#32
  let v1246 : BitVec 32 := Scalar.addi v2 c13_i32_731
  let c16_i32_732 : BitVec 32 := 16#32
  let c0_i32_733 : BitVec 32 := 0#32
  let v1247 : BitVec 1 := Scalar.cmpi .eq c16_i32_732 c0_i32_733
  let c1_i32_734 : BitVec 32 := 1#32
  let v1248 : BitVec 32 := Scalar.select v1247 c1_i32_734 c16_i32_732
  let v1249 : BitVec 32 := Scalar.remsi v1246 v1248
  let c0_i32_736 : BitVec 32 := 0#32
  let v1251 : BitVec 1 := Scalar.cmpi .slt v1249 c0_i32_736
  let c0_i32_737 : BitVec 32 := 0#32
  let v1252 : BitVec 1 := Scalar.cmpi .slt v1248 c0_i32_737
  let v1253 : BitVec 1 := Scalar.xori v1251 v1252
  let c0_i32_735 : BitVec 32 := 0#32
  let v1250 : BitVec 1 := Scalar.cmpi .ne v1249 c0_i32_735
  let v1254 : BitVec 1 := Scalar.andi v1253 v1250
  let v1255 : BitVec 32 := Scalar.addi v1249 v1248
  let v1256 : BitVec 32 := Scalar.select v1254 v1255 v1249
  let c1_i32_741 : BitVec 32 := 1#32
  let v1257 : BitVec 32 := Scalar.muli v1256 c1_i32_741
  let v1258 : BitVec 32 := Scalar.addi c0_i32_742 v1257
  v1258.toNat
def k0_dev29 (d0 : Dev nD) : Nat :=
  let c0_i32_760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_749 : BitVec 32 := 14#32
  let v1268 : BitVec 32 := Scalar.addi v2 c14_i32_749
  let c16_i32_750 : BitVec 32 := 16#32
  let c0_i32_751 : BitVec 32 := 0#32
  let v1269 : BitVec 1 := Scalar.cmpi .eq c16_i32_750 c0_i32_751
  let c1_i32_752 : BitVec 32 := 1#32
  let v1270 : BitVec 32 := Scalar.select v1269 c1_i32_752 c16_i32_750
  let v1271 : BitVec 32 := Scalar.remsi v1268 v1270
  let c0_i32_754 : BitVec 32 := 0#32
  let v1273 : BitVec 1 := Scalar.cmpi .slt v1271 c0_i32_754
  let c0_i32_755 : BitVec 32 := 0#32
  let v1274 : BitVec 1 := Scalar.cmpi .slt v1270 c0_i32_755
  let v1275 : BitVec 1 := Scalar.xori v1273 v1274
  let c0_i32_753 : BitVec 32 := 0#32
  let v1272 : BitVec 1 := Scalar.cmpi .ne v1271 c0_i32_753
  let v1276 : BitVec 1 := Scalar.andi v1275 v1272
  let v1277 : BitVec 32 := Scalar.addi v1271 v1270
  let v1278 : BitVec 32 := Scalar.select v1276 v1277 v1271
  let c1_i32_759 : BitVec 32 := 1#32
  let v1279 : BitVec 32 := Scalar.muli v1278 c1_i32_759
  let v1280 : BitVec 32 := Scalar.addi c0_i32_760 v1279
  v1280.toNat
def k0_dev30 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_767 : BitVec 32 := 15#32
  let v1290 : BitVec 32 := Scalar.addi v2 c15_i32_767
  let c16_i32_768 : BitVec 32 := 16#32
  let c0_i32_769 : BitVec 32 := 0#32
  let v1291 : BitVec 1 := Scalar.cmpi .eq c16_i32_768 c0_i32_769
  let c1_i32_770 : BitVec 32 := 1#32
  let v1292 : BitVec 32 := Scalar.select v1291 c1_i32_770 c16_i32_768
  let v1293 : BitVec 32 := Scalar.remsi v1290 v1292
  let c0_i32_772 : BitVec 32 := 0#32
  let v1295 : BitVec 1 := Scalar.cmpi .slt v1293 c0_i32_772
  let c0_i32_773 : BitVec 32 := 0#32
  let v1296 : BitVec 1 := Scalar.cmpi .slt v1292 c0_i32_773
  let v1297 : BitVec 1 := Scalar.xori v1295 v1296
  let c0_i32_771 : BitVec 32 := 0#32
  let v1294 : BitVec 1 := Scalar.cmpi .ne v1293 c0_i32_771
  let v1298 : BitVec 1 := Scalar.andi v1297 v1294
  let v1299 : BitVec 32 := Scalar.addi v1293 v1292
  let v1300 : BitVec 32 := Scalar.select v1298 v1299 v1293
  let c1_i32_777 : BitVec 32 := 1#32
  let v1301 : BitVec 32 := Scalar.muli v1300 c1_i32_777
  let v1302 : BitVec 32 := Scalar.addi c0_i32_778 v1301
  v1302.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_787 : BitVec 32 := 32#32
  let v1314 : BitVec 32 := Scalar.muli v2 c32_i32_787
  let v1315 : Index := Scalar.indexCast v1314
  let c0_788 : Index := 0#32
  ![v1315.toNat, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S256x512 : Shape := ⟨2, ![256, 512]⟩
abbrev S512x64 : Shape := ⟨2, ![512, 64]⟩
abbrev S_ : Shape := ⟨0, ![]⟩
abbrev S512 : Shape := ⟨1, ![512]⟩
abbrev S512x512 : Shape := ⟨2, ![512, 512]⟩
abbrev S512x64x512 : Shape := ⟨3, ![512, 64, 512]⟩
abbrev S64 : Shape := ⟨1, ![64]⟩
abbrev S1x64 : Shape := ⟨2, ![1, 64]⟩
abbrev S512x64x1 : Shape := ⟨3, ![512, 64, 1]⟩

abbrev nBuf : Space → Nat
  | .hbm => 36
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x64, .f32⟩
  | .hbm, ⟨2, _⟩ => ⟨S512x1, .i32⟩
  | .hbm, ⟨3, _⟩ => ⟨S64x256x512, .f32⟩
  | .hbm, ⟨4, _⟩ => ⟨S256x512, .f32⟩
  | .hbm, ⟨5, _⟩ => ⟨S512x64, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S512x64, .f32⟩
  | .hbm, ⟨16, _⟩ => ⟨S512x64, .f32⟩
  | .hbm, ⟨17, _⟩ => ⟨S512x512, .f32⟩
  | .hbm, ⟨18, _⟩ => ⟨S512x64x512, .f32⟩
  | .hbm, ⟨19, _⟩ => ⟨S64, .i32⟩
  | .hbm, ⟨20, _⟩ => ⟨S1x64, .i32⟩
  | .hbm, ⟨21, _⟩ => ⟨S512x64, .i32⟩
  | .hbm, ⟨22, _⟩ => ⟨S512x64, .i32⟩
  | .hbm, ⟨23, _⟩ => ⟨S512x64, .i1⟩
  | .hbm, ⟨24, _⟩ => ⟨S512x64x1, .i1⟩
  | .hbm, ⟨25, _⟩ => ⟨S512x64x1, .f32⟩
  | .hbm, ⟨26, _⟩ => ⟨S512x64x512, .f32⟩
  | .hbm, ⟨27, _⟩ => ⟨S512x64x512, .f32⟩
  | .hbm, ⟨28, _⟩ => ⟨S_, .f32⟩
  | .hbm, ⟨29, _⟩ => ⟨S_, .f32⟩
  | .hbm, ⟨30, _⟩ => ⟨S512x64x512, .i1⟩
  | .hbm, ⟨31, _⟩ => ⟨S512x64x512, .f32⟩
  | .hbm, ⟨32, _⟩ => ⟨S512x64x512, .f32⟩
  | .hbm, ⟨33, _⟩ => ⟨S_, .f32⟩
  | .hbm, ⟨34, _⟩ => ⟨S512x512, .f32⟩
  | .hbm, ⟨35, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Cells.lean ====
/-
# The kernel's buffers, cells and protocol

Sixteen devices. Device `c` computes, from its four experts, a partial result for every row block and sends the
row block of device `c + k` to slot `k` of that device's gather buffer. Before sending it waits for the receiver's
ready signal of that slot. This module names the buffers, the semaphore cells, what the buffers come to hold, and the
schedule of the cells: per cell one round with one duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Tactic
public import Idealize.ShloMosaic.Lib.Pointwise

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds algebra: the staging pipeline's and the protocol's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory the run starts from: every counter at zero. -/
def s₀ : MemSt nD τ sig (Elt F) := ⟨m, fun _ => 0, ρ⟩

/-! ## The buffers -/

abbrev xM : Memref sig .tc .vmem S512x256 .f32 := Memref.whole cc0_stg0_0
abbrev rwM : Memref sig .tc .vmem S256x64 .f32 := Memref.whole cc0_stg1_0
abbrev rtM : Memref sig .tc .vmem S512x1 .i32 := Memref.whole cc0_stg2_0
abbrev ewM : Memref sig .tc .vmem S4x256x512 .f32 := Memref.whole cc0_stg3_0
abbrev swM : Memref sig .tc .vmem S256x512 .f32 := Memref.whole cc0_stg4_0
abbrev oM : Memref sig .tc .vmem S32x512 .f32 := Memref.whole cc0_stg5_0
abbrev cfM : Memref sig .tc .vmem S512x4 .f32 := Memref.whole cc0_scratch0
abbrev xwM : Memref sig .tc .vmem S512x1024 .bf16 := Memref.whole cc0_scratch1
abbrev ebM : Memref sig .tc .vmem S4x256x512 .bf16 := Memref.whole cc0_scratch2
abbrev sbM : Memref sig .tc .vmem S512x512 .bf16 := Memref.whole cc0_scratch3
abbrev gaM : Memref sig .tc .vmem S16x32x512 .bf16 := Memref.whole cc0_scratch4

theorem slot_inb (k : Fin 16) : ∀ a, (![k.val, 0, 0] : Fin 3 → ℕ) a + S1x32x512.size a ≤ S16x32x512.size a := by
  revert k; decide +kernel
theorem row_inb (k : Fin 16) : ∀ a, (![32 * ((k.val + 15) % 16), 0] : Fin 2 → ℕ) a + S32x512.size a ≤ S512x512.size a := by
  revert k; decide +kernel
theorem chunk_inb (q : Fin 4) : ∀ a, (![128 * q.val, 0] : Fin 2 → ℕ) a + S128x512.size a ≤ S512x512.size a := by
  revert q; decide +kernel
theorem xwrow_inb (j : Fin 16) : ∀ a, (![32 * j.val, 0] : Fin 2 → ℕ) a + S32x1024.size a ≤ S512x1024.size a := by
  revert j; decide +kernel
theorem xwtile_inb (q e : Fin 4) : ∀ a, (![128 * q.val, 256 * e.val] : Fin 2 → ℕ) a + S128x256.size a ≤ S512x1024.size a := by
  revert q e; decide +kernel
theorem expert_inb (e : Fin 4) : ∀ a, (![e.val, 0, 0] : Fin 3 → ℕ) a + S1x256x512.size a ≤ S4x256x512.size a := by
  revert e; decide +kernel

/-- Slot `k` of the gather buffer. -/
abbrev slotM (k : Fin 16) : Memref sig .tc .vmem S32x512 .bf16 :=
  (gaM.slice (Rect.unit (s := S16x32x512) ![k.val, 0, 0] S1x32x512.size (slot_inb k)) (fun _ => rfl)).squeeze S32x512 squeezes_S1x32x512_S32x512
/-- The row block of the send buffer that goes to the device `k` places on: block `k - 1`. -/
abbrev rowM (k : Fin 16) : Memref sig .tc .vmem S32x512 .bf16 :=
  sbM.slice (Rect.unit (s := S512x512) ![32 * ((k.val + 15) % 16), 0] S32x512.size (row_inb k)) (fun _ => rfl)
/-- The rectangle of chunk `q` of the send buffer: four row blocks. -/
abbrev chunkR (q : Fin 4) : Rect S512x512 := Rect.unit (s := S512x512) ![128 * q.val, 0] S128x512.size (chunk_inb q)
/-- The rectangle of row block `j` of the weighted rows. -/
abbrev xwrowR (j : Fin 16) : Rect S512x1024 := Rect.unit (s := S512x1024) ![32 * j.val, 0] S32x1024.size (xwrow_inb j)
/-- The tile of the weighted rows at chunk `q` and local expert `e`. -/
abbrev xwtileR (q e : Fin 4) : Rect S512x1024 := Rect.unit (s := S512x1024) ![128 * q.val, 256 * e.val] S128x256.size (xwtile_inb q e)
/-- The rectangle of local expert `e`. -/
abbrev expertR (e : Fin 4) : Rect S4x256x512 := Rect.unit (s := S4x256x512) ![e.val, 0, 0] S1x256x512.size (expert_inb e)

/-! ## The cells -/

abbrev readySem (k : Fin 16) : Sem sig := ⟨k.val, by have := k.isLt; show k.val < 17; omega⟩
abbrev sendSem (k : Fin 16) : DmaSem sig := ⟨6 + k.val, by have := k.isLt; show 6 + k.val < 38; omega⟩
abbrev recvSem (k : Fin 16) : DmaSem sig := ⟨22 + k.val, by have := k.isLt; show 22 + k.val < 38; omega⟩
abbrev barSem : Sem sig := sig.barrier 0 rfl

abbrev readyCell (c : Dev nD) (k : Fin 16) : GSem nD τ sig := ((c : Thread nD τ), .reg (readySem k))
abbrev sendCell (c : Dev nD) (k : Fin 16) : GSem nD τ sig := ((c : Thread nD τ), .dma (sendSem k))
abbrev recvCell (c : Dev nD) (k : Fin 16) : GSem nD τ sig := ((c : Thread nD τ), .dma (recvSem k))
abbrev barCell (c : Dev nD) : GSem nD τ sig := ((c : Thread nD τ), .reg barSem)

/-- The device `k` places on. -/
def pl (c : Dev nD) (k : Fin 16) : Dev nD := ⟨(c.val + k.val) % 16, Nat.mod_lt _ (by decide)⟩
/-- The offset back. -/
def ng (k : Fin 16) : Fin 16 := ⟨(16 - k.val) % 16, Nat.mod_lt _ (by decide)⟩

theorem pl_ng (c : Dev nD) (k : Fin 16) : pl (pl c k) (ng k) = c := by revert c k; decide +kernel
theorem pl_ng' (c : Dev nD) (k : Fin 16) : pl (pl c (ng k)) k = c := by revert c k; decide +kernel
theorem ng_ng (k : Fin 16) : ng (ng k) = k := by revert k; decide +kernel

/-- The units a transfer of one row block counts. -/
abbrev N : ℕ := (slotM 0).view.dmaCredit
theorem N_pos : 0 < N := View.dmaCredit_pos _ (by decide)

/-! ## Contents -/

/-- What the five operand windows hold on device `c`. -/
def xC (c : Dev nD) : (cc0_stg0_0 : Ref sig .tc).ty.Contents (Elt F) :=
  (win0_0.blk (0 : Fin 1)).view.read (Elt F) ((s₀ m ρ).mem ((c : Thread nD τ).loc main_arg0))
def rwC (c : Dev nD) : (cc0_stg1_0 : Ref sig .tc).ty.Contents (Elt F) :=
  (win0_1.blk (0 : Fin 1)).view.read (Elt F) ((s₀ m ρ).mem ((c : Thread nD τ).loc main_arg1))
def rtC (c : Dev nD) : (cc0_stg2_0 : Ref sig .tc).ty.Contents (Elt F) :=
  (win0_2.blk (0 : Fin 1)).view.read (Elt F) ((s₀ m ρ).mem ((c : Thread nD τ).loc main_arg2))
def ewC (c : Dev nD) : (cc0_stg3_0 : Ref sig .tc).ty.Contents (Elt F) :=
  (win0_3.blk (0 : Fin 1)).view.read (Elt F) ((s₀ m ρ).mem ((c : Thread nD τ).loc main_arg3))
def swC (c : Dev nD) : (cc0_stg4_0 : Ref sig .tc).ty.Contents (Elt F) :=
  (win0_4.blk (0 : Fin 1)).view.read (Elt F) ((s₀ m ρ).mem ((c : Thread nD τ).loc main_arg4))

/-- The device's place on the mesh axis, as the word the program computes. -/
def placeW (c : Dev nD) : BitVec 32 := Scalar.remsi (Scalar.divsi (Dev.word c) 1#32) 16#32

/-- The weight of every token for each of the four local experts. -/
def cfC (c : Dev nD) : (cc0_scratch0 : Ref sig .tc).ty.Contents (Elt F) :=
  k0_pay7 (k0_pay6 (placeW c)
    (k0_pay5 (xM.view.readAt (Elt F) (Rect.unit (s := S512x256) ![0, 0] S512x256.size inb_S512x256_S512x256_0_0).toLoadRect (xC m ρ c))
      (rwM.view.readAt (Elt F) (Rect.unit (s := S256x64) ![0, 0] S256x64.size inb_S256x64_S256x64_0_0).toLoadRect (rwC m ρ c)))
    (rtM.view.readAt (Elt F) (Rect.unit (s := S512x1) ![0, 0] S512x1.size inb_S512x1_S512x1_0_0).toLoadRect (rtC m ρ c)))

/-- Local expert `e` narrowed. -/
def ewBlk (c : Dev nD) (e : Fin 4) : FVec F S1x256x512 .bf16 :=
  k0_pay1 (ewM.view.readAt (Elt F) (expertR e).toLoadRect (ewC m ρ c))

/-- The four narrowed experts. -/
def ebC (c : Dev nD) : (cc0_scratch2 : Ref sig .tc).ty.Contents (Elt F) := fun (i : S4x256x512.Idx) =>
  ewBlk m ρ c ⟨(i 0).val, (i 0).isLt⟩ (ValueIdx.ix3 (0 : Fin 1) (i 1) (i 2))

/-- Row block `j` of the weighted rows: the rows for the device `j + 1` places on, each times its four weights. -/
def xwBlk (c : Dev nD) (j : Fin 16) : FVec F S32x1024 .bf16 :=
  k0_pay8 (xM.view.readAt (Elt F) (Rect.unit (s := S512x256) (k0_off1 c (BitVec.ofNat 32 j.val)) S32x256.size (k0_off1_inb c j)).toLoadRect (xC m ρ c))
    (cfM.view.readAt (Elt F) (Rect.unit (s := S512x4) (k0_off2 c (BitVec.ofNat 32 j.val)) S32x4.size (k0_off2_inb c j)).toLoadRect (cfC m ρ c))

/-- The weighted rows. -/
def xwC (c : Dev nD) : (cc0_scratch1 : Ref sig .tc).ty.Contents (Elt F) := fun (i : S512x1024.Idx) =>
  xwBlk m ρ c ⟨(i 0).val / 32, by have : (i 0).val < 512 := (i 0).isLt; omega⟩
    (ValueIdx.ix2 (⟨(i 0).val % 32, Nat.mod_lt _ (by decide)⟩ : Fin 32) (i 1))

/-- Chunk `q` of the send buffer: the weighted rows times the four experts, summed. -/
def sbBlk (c : Dev nD) (q : Fin 4) : FVec F S128x512 .bf16 :=
  k0_pay43 (k0_pay42
    (xwM.view.readAt (Elt F) (xwtileR q 0).toLoadRect (xwC m ρ c)) (ebM.view.readAt (Elt F) (expertR 0).toLoadRect (ebC m ρ c))
    (xwM.view.readAt (Elt F) (xwtileR q 1).toLoadRect (xwC m ρ c)) (ebM.view.readAt (Elt F) (expertR 1).toLoadRect (ebC m ρ c))
    (xwM.view.readAt (Elt F) (xwtileR q 2).toLoadRect (xwC m ρ c)) (ebM.view.readAt (Elt F) (expertR 2).toLoadRect (ebC m ρ c))
    (xwM.view.readAt (Elt F) (xwtileR q 3).toLoadRect (xwC m ρ c)) (ebM.view.readAt (Elt F) (expertR 3).toLoadRect (ebC m ρ c)))

/-- The send buffer. -/
def sbC (c : Dev nD) : (cc0_scratch3 : Ref sig .tc).ty.Contents (Elt F) := fun (i : S512x512.Idx) =>
  sbBlk m ρ c ⟨(i 0).val / 128, by have : (i 0).val < 512 := (i 0).isLt; omega⟩
    (ValueIdx.ix2 (⟨(i 0).val % 128, Nat.mod_lt _ (by decide)⟩ : Fin 128) (i 1))

/-- The gather buffer: slot `k` holds what the device `k` places back computed for this one. -/
def gaC (c : Dev nD) : (cc0_scratch4 : Ref sig .tc).ty.Contents (Elt F) := fun (i : S16x32x512.Idx) =>
  sbC m ρ (pl c (ng ⟨(i 0).val, (i 0).isLt⟩))
    (ValueIdx.ix2 (⟨32 * (((i 0).val + 15) % 16) + (i 1).val, by
        have h : (i 1).val < 32 := (i 1).isLt
        have := Nat.mod_lt ((i 0).val + 15) (by decide : 0 < 16)
        omega⟩ : Fin 512) (i 2))

/-- The result block of device `c`. -/
def outC (c : Dev nD) : (cc0_stg5_0 : Ref sig .tc).ty.Contents (Elt F) :=
  k0_pay48 (k0_pay47
      (xM.view.readAt (Elt F) (Rect.unit (s := S512x256) (k0_off3 c) S32x256.size (k0_off3_inb c)).toLoadRect (xC m ρ c))
      (swM.view.readAt (Elt F) (Rect.unit (s := S256x512) ![0, 0] S256x512.size inb_S256x512_S256x512_0_0).toLoadRect (swC m ρ c)))
    (gaM.view.readAt (Elt F) (Rect.unit (s := S16x32x512) ![0, 0, 0] S16x32x512.size inb_S16x32x512_S16x32x512_0_0_0).toLoadRect (gaC m ρ c))

/-! ## Regions -/

/-- Slot `k` of device `c`'s gather buffer at contents `f`. -/
def slotPts (c : Dev nD) (k : Fin 16) (f : Buf (Elt F) (gaM.view.loc (c : Thread nD τ))) : sProp 𝕄 :=
  gaM.view.loc (c : Thread nD τ) ↦[(slotM k).view.set]{fullShare} f
/-- The row block of device `c`'s send buffer that goes `k` places on. -/
def rowPts (c : Dev nD) (k : Fin 16) (f : Buf (Elt F) (sbM.view.loc (c : Thread nD τ))) : sProp 𝕄 :=
  sbM.view.loc (c : Thread nD τ) ↦[(rowM k).view.set]{fullShare} f
/-- Chunk `q` of device `c`'s send buffer. -/
def chunkPts (c : Dev nD) (q : Fin 4) (f : Buf (Elt F) (sbM.view.loc (c : Thread nD τ))) : sProp 𝕄 :=
  sbM.view.loc (c : Thread nD τ) ↦[(chunkR q).set]{fullShare} f

instance slotPts_storable (c : Dev nD) (k) (f) : BI.Storable (upEmb : UEmb _ 𝕄) (slotPts (F := F) c k f) := by unfold slotPts; infer_instance
instance rowPts_storable (c : Dev nD) (k) (f) : BI.Storable (upEmb : UEmb _ 𝕄) (rowPts (F := F) c k f) := by unfold rowPts; infer_instance

/-! ## The schedule -/

/-- What the ready signal of slot `k` hands device `c`: that slot on the device `k` places on. -/
def readyPay (c : Dev nD) (k : Fin 16) : sProp 𝕄 := iprop(∃ f, slotPts (F := F) (pl c k) k f)
def sendPay (c : Dev nD) (k : Fin 16) : sProp 𝕄 := rowPts c k (sbC m ρ c)
def recvPay (c : Dev nD) (k : Fin 16) : sProp 𝕄 := slotPts c k (gaC m ρ c)

/-- Whether a semaphore carries a duty: the barrier, and every ready, send and receive cell but slot 0's. -/
def hasDuty : SemLoc sig → Bool
  | .reg s => s.val != 0
  | .dma q => decide (6 < q.val) && q.val != 22

def payOf (c : Dev nD) : SemLoc sig → sProp 𝕄
  | .reg s => if h : s.val < 16 then readyPay c ⟨s.val, h⟩ else iprop(emp)
  | .dma q => if q.val < 22 then sendPay m ρ c ⟨(q.val - 6) % 16, Nat.mod_lt _ (by decide)⟩ else recvPay m ρ c ⟨(q.val - 22) % 16, Nat.mod_lt _ (by decide)⟩

def amtOf : SemLoc sig → ℕ
  | .reg _ => 1
  | .dma _ => N

/-- One round, one duty per cell. -/
def ringRd : Rounds.Schedule (GSem nD τ sig) Unit 𝕄 where
  duties g r := if r = 0 ∧ g.1.2 = .tc ∧ hasDuty g.2 = true then {()} else ∅
  unitless _ := False
  amount g _ _ := amtOf g.2
  payload g _ _ := payOf m ρ g.1.1 g.2
  amount_pos g _ _ _ := by
    show 0 < amtOf g.2
    rcases g.2 with s | q
    · exact Nat.one_pos
    · exact N_pos

instance payOf_storable (c : Dev nD) (sm : SemLoc sig) : BI.Storable (upEmb : UEmb _ 𝕄) (payOf (F := F) m ρ c sm) := by
  unfold payOf readyPay sendPay recvPay
  rcases sm with s | q <;> dsimp only <;> split <;> infer_instance

instance ringRd_payload_storable (g : GSem nD τ sig) (r : ℕ) (d : Unit) : BI.Storable (upEmb : UEmb _ 𝕄) ((ringRd (F := F) m ρ).payload g r d) :=
  payOf_storable m ρ g.1.1 g.2

theorem duties_first (c : Dev nD) (sm : SemLoc sig) (h : hasDuty sm = true) : (ringRd (F := F) m ρ).duties ((c : Thread nD τ), sm) 0 = {()} := by
  dsimp only [ringRd]; exact if_pos ⟨rfl, rfl, h⟩
theorem duties_none (c : Dev nD) (sm : SemLoc sig) (h : hasDuty sm = false) (r : ℕ) : (ringRd (F := F) m ρ).duties ((c : Thread nD τ), sm) r = ∅ := by
  dsimp only [ringRd]; exact if_neg fun h' => by rw [h] at h'; exact absurd h'.2.2 (by decide)
theorem duties_later (g : GSem nD τ sig) : ∀ r, 1 ≤ r → (ringRd (F := F) m ρ).duties g r = ∅ :=
  fun r hr => by dsimp only [ringRd]; exact if_neg fun h => by omega

theorem expect_first (c : Dev nD) (sm : SemLoc sig) (h : hasDuty sm = true) : (ringRd (F := F) m ρ).expect ((c : Thread nD τ), sm) 0 = amtOf sm := by
  unfold Schedule.expect Schedule.amountOf; rw [duties_first m ρ c sm h, Finset.sum_singleton]; rfl

theorem rest_first (c : Dev nD) (sm : SemLoc sig) (h : hasDuty sm = true) :
    bigSep ((ringRd (F := F) m ρ).duties ((c : Thread nD τ), sm) 0 \ ∅) (fun u => (ringRd (F := F) m ρ).payload ((c : Thread nD τ), sm) 0 u) = payOf m ρ c sm := by
  rw [Finset.sdiff_empty, duties_first m ρ c sm h, bigSep_singleton]; rfl

theorem hasDuty_ready (k : Fin 16) (hk : k ≠ 0) : hasDuty (.reg (readySem k)) = true := by revert k; decide
theorem hasDuty_send (k : Fin 16) (hk : k ≠ 0) : hasDuty (.dma (sendSem k)) = true := by revert k; decide
theorem hasDuty_recv (k : Fin 16) (hk : k ≠ 0) : hasDuty (.dma (recvSem k)) = true := by revert k; decide

theorem payOf_ready (c : Dev nD) (k : Fin 16) : payOf (F := F) m ρ c (.reg (readySem k)) = readyPay c k := dif_pos k.isLt
theorem payOf_send (c : Dev nD) (k : Fin 16) : payOf (F := F) m ρ c (.dma (sendSem k)) = sendPay m ρ c k := by
  unfold payOf; dsimp only
  rw [if_pos (by have := k.isLt; omega)]; congr 1
  exact Fin.ext (by have := k.isLt; show (6 + k.val - 6) % 16 = k.val; omega)
theorem payOf_recv (c : Dev nD) (k : Fin 16) : payOf (F := F) m ρ c (.dma (recvSem k)) = recvPay m ρ c k := by
  unfold payOf; dsimp only
  rw [if_neg (by omega)]; congr 1
  exact Fin.ext (by have := k.isLt; show (22 + k.val - 22) % 16 = k.val; omega)
theorem payOf_bar (c : Dev nD) : payOf (F := F) m ρ c (.reg barSem) = iprop(emp) := by unfold payOf; exact dif_neg (by decide)

/-! ## What a device owes; the levels -/

/-- The ready signals still owed. -/
def Oready (c : Dev nD) : List (Fin 16) → CellTallies nD τ sig Unit
  | [] => 0
  | k :: l => Oready c l + tallyAt (readyCell (pl c k) (ng k)) () 1
/-- The transfers still owed. -/
def Orecv (c : Dev nD) : List (Fin 16) → CellTallies nD τ sig Unit
  | [] => 0
  | k :: l => Orecv c l + tallyAt (recvCell (pl c k) k) () N

def L (g : GSem nD τ sig) : Finset Unit := if g.1.2 = .tc then {()} else ∅
def lvOf : SemLoc sig → ℕ
  | .reg _ => 1
  | .dma q => if q.val < 22 then 0 else 2
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 16) : lvOf (.dma (recvSem k)) = 2 := by revert k; decide

theorem Oready_pos {c : Dev nD} {l : List (Fin 16)} {g : GSem nD τ sig} {u : Unit} (h : 0 < Oready c l g u) : ∃ d k, g = readyCell d k := by
  induction l with
  | nil => exact absurd h (Nat.lt_irrefl 0)
  | cons k l ih =>
    unfold Oready at h
    rw [Pi.add_apply, Finsupp.add_apply, tallyAt_apply] at h
    by_cases hg : g = readyCell (pl c k) (ng k) ∧ u = ()
    · exact ⟨_, _, hg.1⟩
    · rw [if_neg hg, Nat.add_zero] at h; exact ih h
theorem Orecv_pos {c : Dev nD} {l : List (Fin 16)} {g : GSem nD τ sig} {u : Unit} (h : 0 < Orecv c l g u) : ∃ d k, g = recvCell d k := by
  induction l with
  | nil => exact absurd h (Nat.lt_irrefl 0)
  | cons k l ih =>
    unfold Orecv at h
    rw [Pi.add_apply, Finsupp.add_apply, tallyAt_apply] at h
    by_cases hg : g = recvCell (pl c k) k ∧ u = ()
    · exact ⟨_, _, hg.1⟩
    · rw [if_neg hg, Nat.add_zero] at h; exact ih h
theorem O_pos {c : Dev nD} {l l' : List (Fin 16)} {g : GSem nD τ sig} {u : Unit} (h : 0 < (Oready c l + Orecv c l') g u) :
    (∃ d k, g = readyCell d k) ∨ ∃ d k, g = recvCell d k := by
  rw [Pi.add_apply, Finsupp.add_apply] at h
  rcases Nat.eq_zero_or_pos (Oready c l g u) with h0 | h0
  · rw [h0, Nat.zero_add] at h; exact .inr (Orecv_pos h)
  · exact .inl (Oready_pos h0)

/-- A wait below what is owed: on any semaphore of level 0 under anything owed. -/
theorem mayWait_low (c : Dev nD) (sm : SemLoc sig) (h : lvOf sm = 0) (l l' : List (Fin 16)) :
    (levAts L lv : sProp 𝕄) ⊢ MayWait (c : Thread nD τ) sm () (Oready c l + Orecv c l') :=
  MayOwe.of_cut (L := L) (lev := lv) 0 (fun p hp => by rw [Finset.mem_singleton.mp hp, L_tc]; exact Finset.mem_singleton_self _)
    (fun g u hg => by rcases O_pos hg with ⟨_, _, rfl⟩ | ⟨_, _, rfl⟩ <;> exact Finset.mem_singleton_self _)
    (fun p hp => by rw [Finset.mem_singleton.mp hp]; exact h.le)
    (fun g u hg => by
      rcases O_pos hg with ⟨_, k, rfl⟩ | ⟨_, k, rfl⟩
      · exact Nat.one_pos
      · exact lt_of_lt_of_eq (by decide) (lv_recv k).symm)

/-- A wait on a regular semaphore while only transfers are owed. -/
theorem mayWait_reg (c : Dev nD) (s : Sem sig) (l' : List (Fin 16)) :
    (levAts L lv : sProp 𝕄) ⊢ MayWait (c : Thread nD τ) (.reg s) () (Oready c [] + Orecv c l') :=
  MayOwe.of_cut (L := L) (lev := lv) 1 (fun p hp => by rw [Finset.mem_singleton.mp hp, L_tc]; exact Finset.mem_singleton_self _)
    (fun g u hg => by rcases O_pos hg with ⟨_, _, rfl⟩ | ⟨_, _, rfl⟩ <;> exact Finset.mem_singleton_self _)
    (fun p hp => by rw [Finset.mem_singleton.mp hp]; exact le_refl 1)
    (fun g u hg => by
      have hg' : 0 < Orecv c l' g u := by
        rw [show Oready c [] = 0 from rfl, zero_add] at hg; exact hg
      obtain ⟨_, k, rfl⟩ := Orecv_pos hg'
      exact lt_of_lt_of_eq (by decide) (lv_recv k).symm)

end Cert.Moe

end
-- ==== Proof.Sums.lean ====
/-
# Sums over the extended reals

What the value proof needs of the arithmetic: the softmax of finite scores is a finite nonnegative number, such a number
moves out of a sum, and the sixteen devices' four experts each are the sixty-four experts.
-/
module

public import Idealize.ShloMosaic.Lib.Pointwise

@[expose] public section

noncomputable section

namespace Cert.Moe

open Idealize.ShloMosaic

/-- A number that is neither infinity. -/
def Real? (x : EReal) : Prop := ∃ r : ℝ, x = (r : EReal)

theorem real_mul {x y : EReal} (hx : Real? x) (hy : Real? y) : Real? (x * y) := by
  obtain ⟨a, rfl⟩ := hx
  obtain ⟨b, rfl⟩ := hy
  exact ⟨a * b, (EReal.coe_mul a b).symm⟩

theorem real_sum {n : ℕ} (f : Fin n → EReal) (h : ∀ k, Real? (f k)) : Real? (∑ k, f k) :=
  Finset.sum_induction f Real? (fun _ _ ⟨a, ha⟩ ⟨b, hb⟩ => ⟨a + b, by rw [ha, hb, EReal.coe_add]⟩) ⟨0, rfl⟩ fun k _ => h k

/-- A finite score is one whose absolute value is below infinity. -/
theorem real_of_abs {x : EReal} (h : max x (-x) < ⊤) : Real? x := by
  induction x with
  | bot => exact absurd h (by simp)
  | top => exact absurd h (by simp)
  | coe r => exact ⟨r, rfl⟩

/-- The score of token `i` for expert `g`. -/
def score (x : (⟨2, ![512, 256]⟩ : Shape).Idx → EReal) (rw : (⟨2, ![256, 64]⟩ : Shape).Idx → EReal) (i : Fin 512) (g : Fin 64) : EReal :=
  ∑ d, x (ix2 i d) * rw (ix2 d g)

/-- The largest of the scores, as the reductions compute it. -/
def top (s : Fin 64 → EReal) : EReal := Finset.fold max (Ideal.ofBits FTy.f32 0xFF800000#32) s Finset.univ

/-- The softmax of the scores. -/
def soft (s : Fin 64 → EReal) (g : Fin 64) : EReal := Ideal.div (Ideal.exp (s g - top s)) (∑ x, Ideal.exp (s x - top s))

theorem lowest : Ideal.ofBits FTy.f32 0xFF800000#32 = (⊥ : EReal) := by
  simp [Ideal.ofBits, Ideal.ieee]

theorem top_real (s : Fin 64 → EReal) (h : ∀ g, Real? (s g)) : Real? (top s) := by
  obtain ⟨g, -, hg⟩ := Finset.exists_mem_eq_sup Finset.univ ⟨0, Finset.mem_univ _⟩ s
  have e : top s = Finset.univ.sup s := by
    unfold top
    rw [lowest]
    rfl
  rw [e, hg]
  exact h g

theorem exp_real {x : EReal} (h : Real? x) : ∃ r : ℝ, 0 < r ∧ Ideal.exp x = (r : EReal) := by
  obtain ⟨a, rfl⟩ := h
  exact ⟨Real.exp a, Real.exp_pos a, rfl⟩

theorem pos_sum {n : ℕ} (f : Fin (n + 1) → EReal) (h : ∀ k, ∃ r : ℝ, 0 < r ∧ f k = (r : EReal)) : ∃ r : ℝ, 0 < r ∧ ∑ k, f k = (r : EReal) := by
  refine Finset.sum_induction_nonempty f (fun x => ∃ r : ℝ, 0 < r ∧ x = (r : EReal)) ?_ ⟨0, Finset.mem_univ _⟩ fun k _ => h k
  rintro _ _ ⟨a, ha, rfl⟩ ⟨b, hb, rfl⟩
  exact ⟨a + b, add_pos ha hb, (EReal.coe_add a b).symm⟩

theorem soft_real (s : Fin 64 → EReal) (h : ∀ g, Real? (s g)) (g : Fin 64) : ∃ r : ℝ, 0 < r ∧ soft s g = (r : EReal) := by
  obtain ⟨M, hM⟩ := top_real s h
  have he : ∀ x, ∃ r : ℝ, 0 < r ∧ Ideal.exp (s x - top s) = (r : EReal) := fun x => by
    obtain ⟨a, ha⟩ := h x
    exact exp_real ⟨a - M, by rw [ha, hM, EReal.coe_sub]⟩
  obtain ⟨a, ha, ea⟩ := he g
  obtain ⟨b, hb, eb⟩ := pos_sum _ he
  refine ⟨a * (1 / b), mul_pos ha (one_div_pos.mpr hb), ?_⟩
  unfold soft
  rw [ea, eb, Ideal.div_coe hb.ne', EReal.coe_mul]

/-- A positive number moves out of a sum. -/
theorem pos_mul_sum {n : ℕ} (r : ℝ) (hr : 0 < r) (f : Fin n → EReal) : (r : EReal) * ∑ k, f k = ∑ k, (r : EReal) * f k := by
  induction n with
  | zero => simp
  | succ n ih =>
    rw [Fin.sum_univ_succ, Fin.sum_univ_succ, EReal.left_distrib_of_nonneg_of_ne_top (EReal.coe_nonneg.mpr hr.le) (EReal.coe_ne_top r), ih]

/-- One expert's share of a token: weighting the token's entries is weighting the expert's output. -/
theorem expert_share (b : BitVec 1) (r : ℝ) (hr : 0 < r) (x w : Fin 256 → EReal) :
    ∑ d, (x d * Scalar.select b (r : EReal) 0) * w d = Scalar.select b ((r : EReal) * ∑ d, x d * w d) 0 := by
  rcases BitVec.eq_zero_or_eq_one b with rfl | rfl
  · rw [ValueIdx.select_zero, ValueIdx.select_zero]
    exact Finset.sum_eq_zero fun d _ => by rw [mul_zero, zero_mul]
  · rw [ValueIdx.select_one, ValueIdx.select_one, pos_mul_sum r hr]
    exact Finset.sum_congr rfl fun d _ => by rw [mul_comm (x d), mul_assoc]

/-- Whether a token's route, a word, is expert `g`. -/
abbrev isAt (t : BitVec 32) (g : Fin 64) : BitVec 1 := IntOp.cmpi CmpIPredicate.eq t (BitVec.ofNat 32 g.val)

theorem isAt_one {t : BitVec 32} {g : Fin 64} : isAt t g = 1#1 ↔ t = BitVec.ofNat 32 g.val := by
  show BitVec.ofBool (t == BitVec.ofNat 32 g.val) = 1#1 ↔ _
  by_cases h : t = BitVec.ofNat 32 g.val
  · rw [beq_iff_eq.mpr h]; exact ⟨fun _ => h, fun _ => rfl⟩
  · rw [beq_eq_false_iff_ne.mpr h]; exact ⟨fun h' => absurd h' (by decide), fun h' => absurd h' h⟩

/-- The weight that a token's route picks is the one of the expert it names. -/
theorem pick (t : BitVec 32) (p : Fin 64 → EReal) (g : Fin 64) :
    Scalar.select (isAt t g) (∑ x, Scalar.select (isAt t x) (p x) 0) 0 = Scalar.select (isAt t g) (p g) (0 : EReal) := by
  rcases BitVec.eq_zero_or_eq_one (isAt t g) with h | h
  · rw [h]; rfl
  · rw [h, ValueIdx.select_one, ValueIdx.select_one, Finset.sum_eq_single g]
    · rw [h]; rfl
    · intro x _ hx
      have : isAt t x = 0#1 := ValueIdx.eq_zero_of_ne_one fun h' => hx (Fin.ext (by
        have e := (isAt_one.mp h').symm.trans (isAt_one.mp h)
        have := congrArg BitVec.toNat e
        simp only [BitVec.toNat_ofNat] at this
        have := x.isLt; have := g.isLt; omega))
      rw [this]; rfl
    · exact fun h' => absurd (Finset.mem_univ _) h'

/-- The devices' experts together are all the experts. -/
theorem sum_experts (T : Fin 64 → EReal) (σ : Fin 16 → Fin 16) (hσ : Function.Bijective σ) :
    ∑ k : Fin 16, ∑ e : Fin 4, T ⟨(σ k).val * 4 + e.val, by have := (σ k).isLt; have := e.isLt; omega⟩ = ∑ g, T g := by
  rw [Fin.sum_univ_tiles 16 4 rfl T]
  exact hσ.sum_comp fun c : Fin 16 => ∑ e : Fin 4, T ⟨c.val * 4 + e.val, by have := c.isLt; have := e.isLt; omega⟩

end Cert.Moe

end
-- ==== Proof.KernelValue.lean ====
/-
# The kernel's result at an index

What the buffers hold, read over the extended reals down to the operands' elements: the weights, the weighted rows, the
send buffer, the gather buffer and the result block.
-/
module

public import proofs.«01_k».proof.Proof.Cells
public import proofs.«01_k».proof.Proof.Sums
public import Idealize.ShloMosaic.Lib.Pointwise.Blocks

@[expose] public section

noncomputable section

namespace Cert.Moe.At

open Cert.KernelIdeal Cert.KernelIdeal.Gen
open Idealize.ShloMosaic Idealize.ShloMosaic.TcCoe

/-! ## Where the loads start -/

theorem off1_eq (c : Dev nD) (j : Fin 16) : k0_off1 c (BitVec.ofNat 32 j.val) = ![32 * ((c.val + 1 + j.val) % 16), 0] := by
  revert c j; decide +kernel
theorem off2_eq (c : Dev nD) (j : Fin 16) : k0_off2 c (BitVec.ofNat 32 j.val) = ![32 * ((c.val + 1 + j.val) % 16), 0] := by
  revert c j; decide +kernel
theorem off3_eq (c : Dev nD) : k0_off3 c = ![32 * c.val, 0] := by revert c; decide +kernel

/-- The words that the program compares a route with: the four experts of the device. -/
theorem place_word (c : Dev nD) (e : Fin 4) :
    Scalar.addi (Scalar.muli (placeW c) 4#32) (BitVec.ofNat 32 e.val) = BitVec.ofNat 32 (c.val * 4 + e.val) := by
  revert c e; decide +kernel

/-- A load from a whole buffer reads the buffer at the shifted index. -/
theorem readAt_off (r : Ref sig .tc) {off size : Fin r.ty.shape.rank → ℕ} (h : ∀ a, off a + size a ≤ r.ty.shape.size a) (f : r.ty.Contents (Elt Ideal))
    (x : (Rect.unit (s := r.ty.shape) off size h).shape.Idx) (y : r.ty.shape.Idx) (hy : ∀ a, (y a).val = off a + (x a).val) :
    (Memref.whole r : Memref sig .tc _ _ _).view.readAt (Elt Ideal) (Rect.unit (s := r.ty.shape) off size h).toLoadRect f x = f y := by
  rw [View.readAt_apply]
  show f _ = f y
  refine congrArg f (funext fun a => Fin.ext ?_)
  show off a + 1 * (x a).val = (y a).val
  rw [hy, Nat.one_mul]

variable (m : (ℓ : Loc nD τ sig) → Buf (Elt Ideal) ℓ) (ρ : Dev nD → PrngReg)

/-! ## The operands -/

theorem xC_eq (c : Dev nD) : xC m ρ c = m ((c : Thread nD τ).loc main_arg0) := by
  funext i
  refine congrArg (m ((c : Thread nD τ).loc main_arg0)) (funext fun a => Fin.ext ?_)
  show 0 * _ + 1 * (i a).val = (i a).val
  omega

theorem rwC_eq (c : Dev nD) : rwC m ρ c = m ((c : Thread nD τ).loc main_arg1) := by
  funext i
  refine congrArg (m ((c : Thread nD τ).loc main_arg1)) (funext fun a => Fin.ext ?_)
  show 0 * _ + 1 * (i a).val = (i a).val
  omega
theorem rtC_eq (c : Dev nD) : rtC m ρ c = m ((c : Thread nD τ).loc main_arg2) := by
  funext i
  refine congrArg (m ((c : Thread nD τ).loc main_arg2)) (funext fun a => Fin.ext ?_)
  show 0 * _ + 1 * (i a).val = (i a).val
  omega
theorem ewC_eq (c : Dev nD) : ewC m ρ c = m ((c : Thread nD τ).loc main_arg3) := by
  funext i
  refine congrArg (m ((c : Thread nD τ).loc main_arg3)) (funext fun a => Fin.ext ?_)
  show 0 * _ + 1 * (i a).val = (i a).val
  omega
theorem swC_eq (c : Dev nD) : swC m ρ c = m ((c : Thread nD τ).loc main_arg4) := by
  funext i
  refine congrArg (m ((c : Thread nD τ).loc main_arg4)) (funext fun a => Fin.ext ?_)
  show 0 * _ + 1 * (i a).val = (i a).val
  omega

/-! ## The operations at an index -/

theorem pay1_at (y : Vec Ideal S1x256x512 .f32) (d : Fin 256) (h : Fin 512) : k0_pay1 y (ix3 0 d h) = y (ix3 0 d h) := by
  pointwise [k0_pay1]

theorem pay5_at (a : Vec Ideal S512x256 .f32) (b : Vec Ideal S256x64 .f32) (i : Fin 512) (g : Fin 64) :
    k0_pay5 a b (ix2 i g) = ∑ d, a (ix2 i d) * b (ix2 d g) := by
  pointwise [k0_pay5]

theorem pay6_at (w : BitVec 32) (s : FVec Ideal S512x64 .f32) (r : Vec Ideal S512x1 .i32) (i : Fin 512) (e : Fin 4) :
    k0_pay6 w s r (ix2 i e) = Scalar.select (IntOp.cmpi CmpIPredicate.eq (r (ix2 i 0)) (Scalar.addi (Scalar.muli w 4#32) (BitVec.ofNat 32 e.val)))
      (∑ x, Scalar.select (isAt (r (ix2 i 0)) x) (soft (fun g => s (ix2 i g)) x) 0) (0 : EReal) := by
  match e with
  | 0 => pointwise [k0_pay6]; rfl
  | 1 => pointwise [k0_pay6]; rfl
  | 2 => pointwise [k0_pay6]; rfl
  | 3 => pointwise [k0_pay6]; rfl

theorem pay7_at (v : FVec Ideal S512x4 .f32) (i : Fin 512) (e : Fin 4) : k0_pay7 v (ix2 i e) = v (ix2 i e) := by
  pointwise [k0_pay7]

/-- The column of the weighted rows that holds entry `d` for local expert `e`. -/
def col (e : Fin 4) (d : Fin 256) : Fin 1024 := ⟨256 * e.val + d.val, by have := e.isLt; have := d.isLt; omega⟩

theorem pay8_at (x : Vec Ideal S32x256 .f32) (w : Vec Ideal S32x4 .f32) (i : Fin 32) (e : Fin 4) (d : Fin 256) :
    k0_pay8 x w (ix2 i (col e d)) = x (ix2 i d) * w (ix2 i e) := by
  have hd := d.isLt
  match e with
  | 0 => pointwise [k0_pay8, col]
  | 1 => pointwise [k0_pay8, col]
  | 2 =>
    pointwise [k0_pay8, col]
    rw [dif_neg (by omega), dif_neg (by omega), dif_pos (by omega)]
    exact congrArg (fun k => x (ix2 i k) * w (ix2 i 2)) (Fin.ext (by show 512 + d.val - 256 - 256 = d.val; omega))
  | 3 =>
    pointwise [k0_pay8, col]
    rw [dif_neg (by omega), dif_neg (by omega), dif_neg (by omega)]
    exact congrArg (fun k => x (ix2 i k) * w (ix2 i 3)) (Fin.ext (by show 768 + d.val - 256 - 256 - 256 = d.val; omega))

theorem pay42_at (x1 x2 x3 x4 : Vec Ideal S128x256 .bf16) (y1 y2 y3 y4 : Vec Ideal S1x256x512 .bf16) (i : Fin 128) (h : Fin 512) :
    k0_pay43 (k0_pay42 x1 y1 x2 y2 x3 y3 x4 y4) (ix2 i h)
      = ∑ d, x1 (ix2 i d) * y1 (ix3 0 d h) + ∑ d, x2 (ix2 i d) * y2 (ix3 0 d h) + ∑ d, x3 (ix2 i d) * y3 (ix3 0 d h) + ∑ d, x4 (ix2 i d) * y4 (ix3 0 d h) := by
  pointwise [k0_pay43, k0_pay42]

theorem pay47_at (x : Vec Ideal S32x256 .f32) (w : Vec Ideal S256x512 .f32) (i : Fin 32) (h : Fin 512) :
    k0_pay47 x w (ix2 i h) = ∑ d, x (ix2 i d) * w (ix2 d h) := by
  pointwise [k0_pay47]

theorem pay48_at (x : FVec Ideal S32x512 .f32) (y : Vec Ideal S16x32x512 .bf16) (i : Fin 32) (h : Fin 512) :
    k0_pay48 x y (ix2 i h) = x (ix2 i h) + ∑ k, y (ix3 k i h) := by
  pointwise [k0_pay48]

/-! ## The buffers at an index -/

/-- Device `c`'s local expert `e`. -/
def expertOf (c : Dev nD) (e : Fin 4) : Fin 64 := ⟨c.val * 4 + e.val, by have : c.val < 16 := c.isLt; have := e.isLt; omega⟩

abbrev xF (c : Dev nD) : Vec Ideal S512x256 .f32 := xC m ρ c
abbrev rwF (c : Dev nD) : Vec Ideal S256x64 .f32 := rwC m ρ c
abbrev rtF (c : Dev nD) : Vec Ideal S512x1 .i32 := rtC m ρ c
abbrev ewF (c : Dev nD) : Vec Ideal S4x256x512 .f32 := ewC m ρ c
abbrev swF (c : Dev nD) : Vec Ideal S256x512 .f32 := swC m ρ c
abbrev cfF (c : Dev nD) : Vec Ideal S512x4 .f32 := cfC m ρ c
abbrev xwF (c : Dev nD) : Vec Ideal S512x1024 .bf16 := xwC m ρ c
abbrev ebF (c : Dev nD) : Vec Ideal S4x256x512 .bf16 := ebC m ρ c
abbrev sbF (c : Dev nD) : Vec Ideal S512x512 .bf16 := sbC m ρ c
abbrev gaF (c : Dev nD) : Vec Ideal S16x32x512 .bf16 := gaC m ρ c
abbrev outF (c : Dev nD) : Vec Ideal S32x512 .f32 := outC m ρ c

theorem origin2 : (![0, 0] : Fin 2 → ℕ) = fun _ => 0 := by decide
theorem origin3 : (![0, 0, 0] : Fin 3 → ℕ) = fun _ => 0 := by decide

theorem read_x (c : Dev nD) : xM.view.readAt (Elt Ideal) (Rect.unit (s := S512x256) ![0, 0] S512x256.size inb_S512x256_S512x256_0_0).toLoadRect (xC m ρ c) = xF m ρ c :=
  Memref.readAt_unit_zero (Elt Ideal) cc0_stg0_0 origin2 _ _
theorem read_rw (c : Dev nD) : rwM.view.readAt (Elt Ideal) (Rect.unit (s := S256x64) ![0, 0] S256x64.size inb_S256x64_S256x64_0_0).toLoadRect (rwC m ρ c) = rwF m ρ c :=
  Memref.readAt_unit_zero (Elt Ideal) cc0_stg1_0 origin2 _ _
theorem read_rt (c : Dev nD) : rtM.view.readAt (Elt Ideal) (Rect.unit (s := S512x1) ![0, 0] S512x1.size inb_S512x1_S512x1_0_0).toLoadRect (rtC m ρ c) = rtF m ρ c :=
  Memref.readAt_unit_zero (Elt Ideal) cc0_stg2_0 origin2 _ _
theorem read_sw (c : Dev nD) : swM.view.readAt (Elt Ideal) (Rect.unit (s := S256x512) ![0, 0] S256x512.size inb_S256x512_S256x512_0_0).toLoadRect (swC m ρ c) = swF m ρ c :=
  Memref.readAt_unit_zero (Elt Ideal) cc0_stg4_0 origin2 _ _
theorem read_ga (c : Dev nD) : gaM.view.readAt (Elt Ideal) (Rect.unit (s := S16x32x512) ![0, 0, 0] S16x32x512.size inb_S16x32x512_S16x32x512_0_0_0).toLoadRect (gaC m ρ c) = gaF m ρ c :=
  Memref.readAt_unit_zero (Elt Ideal) cc0_scratch4 origin3 _ _

theorem cfC_at (c : Dev nD) (i : Fin 512) (e : Fin 4) :
    cfF m ρ c (ix2 i e) = Scalar.select (isAt (rtF m ρ c (ix2 i 0)) (expertOf c e)) (soft (score (xF m ρ c) (rwF m ρ c) i) (expertOf c e)) (0 : EReal) := by
  unfold cfF cfC
  rw [pay7_at, pay6_at, place_word, read_x, read_rw, read_rt]
  simp only [pay5_at]
  exact pick _ _ (expertOf c e)

/-- The token whose row is row `r` of device `c`'s weighted rows. -/
def tokenAt (c : Dev nD) (r : Fin 512) : Fin 512 :=
  ⟨32 * ((c.val + 1 + r.val / 32) % 16) + r.val % 32, by have := r.isLt; omega⟩

theorem xwC_at (c : Dev nD) (r : Fin 512) (e : Fin 4) (d : Fin 256) :
    xwF m ρ c (ix2 r (col e d)) = xF m ρ c (ix2 (tokenAt c r) d) * cfF m ρ c (ix2 (tokenAt c r) e) := by
  refine (pay8_at _ _ (⟨r.val % 32, Nat.mod_lt _ (by decide)⟩ : Fin 32) e d).trans ?_
  refine congrArg₂ (fun a b : EReal => a * b) (readAt_off cc0_stg0_0 _ _ _ _ ?_) (readAt_off cc0_scratch0 _ _ _ _ ?_)
  · intro a
    refine Eq.trans ?_ (congrArg (fun k : ℕ => k + _) (congrFun (off1_eq c ⟨r.val / 32, by have := r.isLt; omega⟩).symm a))
    match a with
    | ⟨0, _⟩ => rfl
    | ⟨1, _⟩ => exact (Nat.zero_add _).symm
  · intro a
    refine Eq.trans ?_ (congrArg (fun k : ℕ => k + _) (congrFun (off2_eq c ⟨r.val / 32, by have := r.isLt; omega⟩).symm a))
    match a with
    | ⟨0, _⟩ => rfl
    | ⟨1, _⟩ => exact (Nat.zero_add _).symm

theorem ebC_at (c : Dev nD) (e : Fin 4) (d : Fin 256) (h : Fin 512) : ebF m ρ c (ix3 e d h) = ewF m ρ c (ix3 e d h) := by
  have hb : ebF m ρ c (ix3 e d h) = ewBlk m ρ c e (ix3 0 d h) := rfl
  rw [hb, ewBlk, pay1_at]
  refine readAt_off cc0_stg3_0 _ _ _ _ fun a => ?_
  match a with
  | ⟨0, _⟩ => rfl
  | ⟨1, _⟩ => exact (Nat.zero_add _).symm
  | ⟨2, _⟩ => exact (Nat.zero_add _).symm

/-- What local expert `e` of device `c` adds to row `r` of the send buffer. -/
def share (c : Dev nD) (r : Fin 512) (h : Fin 512) (e : Fin 4) : EReal :=
  ∑ d, (xF m ρ c (ix2 (tokenAt c r) d) * cfF m ρ c (ix2 (tokenAt c r) e)) * ewF m ρ c (ix3 e d h)

theorem tile_at (c : Dev nD) (r : Fin 512) (h : Fin 512) (e : Fin 4) (q : Fin 4) (i : Fin 128) (hr : r.val = 128 * q.val + i.val) :
    ∑ d, (xwM.view.readAt (Elt Ideal) (xwtileR q e).toLoadRect (xwC m ρ c) : Vec Ideal S128x256 .bf16) (ix2 i d)
      * (ebM.view.readAt (Elt Ideal) (expertR e).toLoadRect (ebC m ρ c) : Vec Ideal S1x256x512 .bf16) (ix3 0 d h) = share m ρ c r h e := by
  refine Finset.sum_congr rfl fun d _ => ?_
  rw [← xwC_at, ← ebC_at]
  refine congrArg₂ (fun a b : EReal => a * b) (readAt_off cc0_scratch1 _ _ _ _ ?_) (readAt_off cc0_scratch2 _ _ _ _ ?_)
  · intro a
    match a with
    | ⟨0, _⟩ => exact hr
    | ⟨1, _⟩ => rfl
  · intro a
    match a with
    | ⟨0, _⟩ => rfl
    | ⟨1, _⟩ => exact (Nat.zero_add _).symm
    | ⟨2, _⟩ => exact (Nat.zero_add _).symm

theorem sbC_at (c : Dev nD) (r : Fin 512) (h : Fin 512) : sbF m ρ c (ix2 r h) = ∑ e : Fin 4, share m ρ c r h e := by
  have hr : r.val = 128 * (r.val / 128) + r.val % 128 := (Nat.div_add_mod _ _).symm
  have hq : r.val / 128 < 4 := by have := r.isLt; omega
  refine (pay42_at _ _ _ _ _ _ _ _ (⟨r.val % 128, Nat.mod_lt _ (by decide)⟩ : Fin 128) h).trans ?_
  rw [Fin.sum_univ_four]
  exact congrArg₂ (fun a b : EReal => a + b) (congrArg₂ (fun a b : EReal => a + b) (congrArg₂ (fun a b : EReal => a + b)
    (tile_at m ρ c r h 0 ⟨r.val / 128, hq⟩ _ hr) (tile_at m ρ c r h 1 ⟨r.val / 128, hq⟩ _ hr)) (tile_at m ρ c r h 2 ⟨r.val / 128, hq⟩ _ hr))
    (tile_at m ρ c r h 3 ⟨r.val / 128, hq⟩ _ hr)

/-- The row of the send buffer that goes to slot `k`. -/
def sentRow (k : Fin 16) (i : Fin 32) : Fin 512 := ⟨32 * ((k.val + 15) % 16) + i.val, by have := i.isLt; omega⟩

theorem gaC_at (c : Dev nD) (k : Fin 16) (i : Fin 32) (h : Fin 512) :
    gaF m ρ c (ix3 k i h) = ∑ e : Fin 4, share m ρ (pl c (ng k)) (sentRow k i) h e := sbC_at m ρ (pl c (ng k)) (sentRow k i) h

/-- The token of row `i` of device `c`'s result. -/
def ownToken (c : Dev nD) (i : Fin 32) : Fin 512 := ⟨32 * c.val + i.val, by have : c.val < 16 := c.isLt; have := i.isLt; omega⟩

/-- The rows of slot `k` are the device's own tokens. -/
theorem tokenAt_sent (c : Dev nD) (k : Fin 16) (i : Fin 32) : tokenAt (pl c (ng k)) (sentRow k i) = ownToken c i := by
  apply Fin.ext
  show 32 * (((c.val + (16 - k.val) % 16) % 16 + 1 + (32 * ((k.val + 15) % 16) + i.val) / 32) % 16) + (32 * ((k.val + 15) % 16) + i.val) % 32 = 32 * c.val + i.val
  have : c.val < 16 := c.isLt
  have := i.isLt
  have := k.isLt
  omega

theorem outC_at (c : Dev nD) (i : Fin 32) (h : Fin 512) :
    outF m ρ c (ix2 i h) = ∑ d, xF m ρ c (ix2 (ownToken c i) d) * swF m ρ c (ix2 d h)
      + ∑ k : Fin 16, ∑ e : Fin 4, share m ρ (pl c (ng k)) (sentRow k i) h e := by
  refine (pay48_at _ _ i h).trans ?_
  rw [pay47_at, read_sw, read_ga]
  refine congrArg₂ (fun a b : EReal => a + b) (Finset.sum_congr rfl fun d _ => ?_) (Finset.sum_congr rfl fun k _ => gaC_at m ρ c k i h)
  refine congrArg (fun a : EReal => a * _) (readAt_off cc0_stg0_0 _ _ _ _ fun a => ?_)
  refine Eq.trans ?_ (congrArg (fun k : ℕ => k + _) (congrFun (off3_eq c).symm a))
  match a with
  | ⟨0, _⟩ => rfl
  | ⟨1, _⟩ => exact (Nat.zero_add _).symm

end Cert.Moe.At

end
-- ==== Proof.RefValue.lean ====
/-
# What the reference computes

The reference's result is read off its operations and written at one index: the shared network's output, and for each
expert the token's probability of it times the expert's output, if the token's route names the expert.
-/
module

public import proofs.«01_k».proof.Proof.Gen.ReferenceIdeal.Run
public import proofs.«01_k».proof.Proof.Sums

@[expose] public section

noncomputable section

namespace Cert.Moe.Ref

open Cert.ReferenceIdeal Cert.ReferenceIdeal.Gen Idealize.ShloMosaic Idealize.SL.Sem
open Cert.ReferenceIdeal.Facts

/-! ## The operations, in four parts -/

/-- The router's scores. -/
def scores (x : FVec Ideal S512x256 .f32) (rw : FVec Ideal S256x64 .f32) : FVec Ideal S512x64 .f32 :=
  Host.dotGeneral dot_S512x256_S256x64_S512x64_1_0_0_1_n_n none x rw

/-- The exponentials of the scores, each row's less its largest. -/
def exps (s : FVec Ideal S512x64 .f32) : FVec Ideal S512x64 .f32 :=
  Host.exp (subf s (broadcastInDim S512x64 ![0, 1] bcast_S512x1_S512x64_0_1 (broadcastInDim S512x1 ![0] bcast_S512_S512x1_0
    (Host.reduce FloatOps.maximumf s (constant S_ .f32 0xFF800000#32) reducesTo_S512x64_S512_d1 h_S_))))

/-- The rows divided by their sums. -/
def probs (e : FVec Ideal S512x64 .f32) : FVec Ideal S512x64 .f32 :=
  Host.divf e (broadcastInDim S512x64 ![0, 1] bcast_S512x1_S512x64_0_1 (broadcastInDim S512x1 ![0] bcast_S512_S512x1_0
    (Host.reduceAdd e (constant S_ .f32 0x00000000#32) reducesTo_S512x64_S512_d1 h_S_)))

/-- The routed experts' outputs, weighted and summed. -/
def routed (x : FVec Ideal S512x256 .f32) (p : FVec Ideal S512x64 .f32) (rt : IVec S512x1 32) (ew : FVec Ideal S64x256x512 .f32) :
    FVec Ideal S512x512 .f32 :=
  Host.reduceAdd (select
      (broadcastInDim S512x64x512 ![0, 1, 2] bcast_S512x64x1_S512x64x512_0_1_2 (broadcastInDim S512x64x1 ![0, 1] bcast_S512x64_S512x64x1_0_1
        (cmpi .eq (broadcastInDim S512x64 ![0, 1] bcast_S512x1_S512x64_0_1 rt)
          (broadcastInDim S512x64 ![0, 1] bcast_S1x64_S512x64_0_1 (broadcastInDim S1x64 ![1] bcast_S64_S1x64_1 (iotaInDim S64 32 0))))))
      (mulf (broadcastInDim S512x64x512 ![0, 1, 2] bcast_S512x64x1_S512x64x512_0_1_2 (broadcastInDim S512x64x1 ![0, 1] bcast_S512x64_S512x64x1_0_1 p))
        (Host.dotGeneral dot_S512x256_S64x256x512_S512x64x512_1_1_0_02_n_n none x ew))
      (broadcastInDim S512x64x512 ![] bcast_S_S512x64x512 (id (constant S_ .f32 0x00000000#32))))
    (constant S_ .f32 0x00000000#32) reducesTo_S512x64x512_S512x512_d1 h_S_

/-- The shared network's output and the routed one. -/
def out (x : FVec Ideal S512x256 .f32) (rw : FVec Ideal S256x64 .f32) (rt : IVec S512x1 32) (ew : FVec Ideal S64x256x512 .f32)
    (sw : FVec Ideal S256x512 .f32) : FVec Ideal S512x512 .f32 :=
  addf (Host.dotGeneral dot_S512x256_S256x512_S512x512_1_0_0_1_n_n none x sw) (routed x (probs (exps (scores x rw))) rt ew)

/-- Every run of the reference ends with `out` of the arguments, and the arguments unchanged. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

/-! ## The parts at an index -/

theorem scores_at (x : FVec Ideal S512x256 .f32) (rw : FVec Ideal S256x64 .f32) (i : Fin 512) (g : Fin 64) :
    scores x rw (ix2 i g) = ∑ d, x (ix2 i d) * rw (ix2 d g) := by
  pointwise [scores]

theorem exps_at (s : FVec Ideal S512x64 .f32) (i : Fin 512) (g : Fin 64) :
    exps s (ix2 i g) = Ideal.exp (s (ix2 i g) - top fun x => s (ix2 i x)) := by
  unfold top
  pointwise [exps]

theorem probs_at (e : FVec Ideal S512x64 .f32) (i : Fin 512) (g : Fin 64) :
    probs e (ix2 i g) = Ideal.div (e (ix2 i g)) (∑ x, e (ix2 i x)) := by
  pointwise [probs]

theorem zero_word : Ideal.ofBits FTy.f32 0x00000000#32 = (0 : EReal) := by
  simp [Ideal.ofBits, Ideal.ieee]

theorem routed_at (x : FVec Ideal S512x256 .f32) (p : FVec Ideal S512x64 .f32) (rt : IVec S512x1 32) (ew : FVec Ideal S64x256x512 .f32)
    (i : Fin 512) (h : Fin 512) :
    routed x p rt ew (ix2 i h) = ∑ g : Fin 64, Scalar.select (isAt (rt (ix2 i 0)) g) (p (ix2 i g) * ∑ d, x (ix2 i d) * ew (ix3 g d h)) (0 : EReal) := by
  pointwise [routed]
  exact Finset.sum_congr rfl fun g _ => congrArg (Scalar.select _ _) zero_word

theorem out_at (x : FVec Ideal S512x256 .f32) (rw : FVec Ideal S256x64 .f32) (rt : IVec S512x1 32) (ew : FVec Ideal S64x256x512 .f32)
    (sw : FVec Ideal S256x512 .f32) (i : Fin 512) (h : Fin 512) :
    out x rw rt ew sw (ix2 i h) = ∑ d, x (ix2 i d) * sw (ix2 d h)
      + ∑ g : Fin 64, Scalar.select (isAt (rt (ix2 i 0)) g) (soft (score x rw i) g * ∑ d, x (ix2 i d) * ew (ix3 g d h)) (0 : EReal) := by
  refine Eq.trans (b := ∑ d, x (ix2 i d) * sw (ix2 d h) + routed x (probs (exps (scores x rw))) rt ew (ix2 i h)) ?_ ?_
  · pointwise [out]
  · rw [routed_at]
    simp only [probs_at, exps_at, scores_at]
    rfl

end Cert.Moe.Ref

end
-- ==== Proof.Steps.lean ====
/-
# One step of the body at a time

`St` says what a device holds between two operations of the kernel body: which signals, waits and transfers it has
still to do, which slots and row blocks it holds, and what its buffers contain. One lemma per kind of operation
carries `St` over that operation.
-/
module

public import proofs.«01_k».proof.Proof.Cells

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Cells by index, and the shared records -/

/-- The protocol's semaphores: the barrier, and per slot a ready, a send and a receive semaphore. -/
abbrev KIx := Option (Fin 3 × Fin 16)
def osem : Fin 3 × Fin 16 → SemLoc sig
  | (0, k) => .reg (readySem k)
  | (1, k) => .dma (sendSem k)
  | (2, k) => .dma (recvSem k)
def asem : KIx → SemLoc sig
  | none => .reg barSem
  | some p => osem p
abbrev acell (ck : Dev nD × KIx) : GSem nD τ sig := ((ck.1 : Thread nD τ), asem ck.2)

/-- Every cell's record, and that its round 0 has begun. -/
def records (K : Dev nD × KIx → ℕ) : sProp 𝕄 :=
  bigSep Finset.univ fun ck => iprop(cellInv ER (ringRd m ρ) (K ck) (acell ck) ∗ reached ER (acell ck) 0)

instance records_persistent (K : Dev nD × KIx → ℕ) : BI.Persistent (records (F := F) m ρ K) := by unfold records; infer_instance

theorem rec_get (K : Dev nD × KIx → ℕ) (ck : Dev nD × KIx) :
    records m ρ K ⊢ iprop(cellInv ER (ringRd m ρ) (K ck) (acell ck) ∗ reached ER (acell ck) 0) :=
  bigSep_elim (Finset.mem_univ ck)

/-! ## Lists of resources -/

def lsep {A : Type} (Φ : A → sProp 𝕄) : List A → sProp 𝕄
  | [] => iprop(emp)
  | a :: l => iprop(Φ a ∗ lsep Φ l)

theorem lsep_cons {A : Type} (Φ : A → sProp 𝕄) (a : A) (l : List A) : lsep Φ (a :: l) = iprop(Φ a ∗ lsep Φ l) := rfl
theorem lsep_nil {A : Type} (Φ : A → sProp 𝕄) : lsep Φ [] = iprop(emp) := rfl

theorem lsep_snoc {A : Type} (Φ : A → sProp 𝕄) (a : A) (l : List A) : iprop(lsep Φ l ∗ Φ a) ⊢ lsep Φ (l ++ [a]) := by
  induction l with
  | nil =>
    show iprop(emp ∗ Φ a) ⊢ iprop(Φ a ∗ emp)
    iintro ⟨-, H⟩; isplitl [H]; · iexact H
    iempintro
  | cons b l ih =>
    show iprop((Φ b ∗ lsep Φ l) ∗ Φ a) ⊢ iprop(Φ b ∗ lsep Φ (l ++ [a]))
    iintro ⟨⟨Hb, Hl⟩, Ha⟩
    isplitl [Hb]; · iexact Hb
    iapply ih
    isplitl [Hl] <;> iassumption

/-! ## The state -/

abbrev sgI (c : Dev nD) (k : Fin 16) : sProp 𝕄 := iprop(dutyTok ER (readyCell (pl c k) (ng k)) 0 () ∗ ∃ f, slotPts (F := F) c (ng k) f)
abbrev wI (c : Dev nD) (k : Fin 16) : sProp 𝕄 := iprop(atPos ER (readyCell c k) 0 ∅ 0 ∗ cred (tallyAt (readyCell c k) () 1))
abbrev snI (c : Dev nD) (k : Fin 16) : sProp 𝕄 :=
  iprop(atPos ER (sendCell c k) 0 ∅ 0 ∗ dutyTok ER (sendCell c k) 0 () ∗ dutyTok ER (recvCell (pl c k) k) 0 ())
abbrev scI (c : Dev nD) (k : Fin 16) : sProp 𝕄 := iprop(atPos ER (sendCell c k) 0 ∅ 0 ∗ cred (tallyAt (sendCell c k) () N))
abbrev rvI (c : Dev nD) (k : Fin 16) : sProp 𝕄 := iprop(atPos ER (recvCell c k) 0 ∅ 0 ∗ cred (tallyAt (recvCell c k) () N))
abbrev zI (c : Dev nD) (p : Fin 3 × Fin 16) : sProp 𝕄 := semVal ((c : Thread nD τ), osem p) 0
def barI (c : Dev nD) : Bool → sProp 𝕄
  | true => semVal (barCell c) 0
  | false => iprop(dutyTok ER (barCell c) 0 () ∗ atPos ER (barCell c) 0 ∅ 0)
abbrev gtI (c : Dev nD) (k : Fin 16) : sProp 𝕄 := slotPts c k (gaC m ρ c)
abbrev rwI (c : Dev nD) (k : Fin 16) : sProp 𝕄 := rowPts c k (sbC m ρ c)
abbrev chI (c : Dev nD) (q : Fin 4) : sProp 𝕄 := iprop(∃ f, chunkPts (F := F) c q f)
abbrev slI (c : Dev nD) (k : Fin 16) : sProp 𝕄 := iprop(∃ f, slotPts (F := F) c k f)

/-- A whole buffer whose contents satisfy `P`. -/
def bufI (c : Dev nD) (b : Ref sig .tc) (P : b.ty.Contents (Elt F) → Prop) : sProp 𝕄 :=
  iprop(∃ f : Buf (Elt F) ((c : Thread nD τ).loc b), ⌜P f⌝ ∗ (((c : Thread nD τ).loc b) ↦{fullShare} f))

/-- The signals, waits and transfers to come (`sg` ready signals to give, `w` ready waits, `pd` slots elsewhere received
    and not yet used, `sn` transfers to start, `sc` transfers started whose send is not awaited, `rv` arrivals to await),
    and the cells done with (`z`; `bar` for the barrier). -/
def Gh (K : Dev nD × KIx → ℕ) (c : Dev nD) (sg w pd sn sc rv : List (Fin 16)) (z : List (Fin 3 × Fin 16)) (bar : Bool) : sProp 𝕄 :=
  iprop(records m ρ K ∗ levAts L lv ∗ (∃ W, owes (c : Thread nD τ) (Oready c sg + Orecv c sn) W)
    ∗ lsep (sgI c) sg ∗ lsep (wI c) w ∗ lsep (readyPay c) pd ∗ lsep (snI c) sn ∗ lsep (scI c) sc ∗ lsep (rvI c) rv
    ∗ lsep (zI c) z ∗ barI c bar)

/-- The buffers: own slots filled (`gt`) and unfilled (`sl`), row blocks ready to send or back (`rw`), chunks of the send
    buffer not yet computed (`ch`), and the whole buffers. -/
def Me (c : Dev nD) (gt sl rw : List (Fin 16)) (ch : List (Fin 4))
    (Pc : (cc0_scratch0 : Ref sig .tc).ty.Contents (Elt F) → Prop) (Pe : (cc0_scratch2 : Ref sig .tc).ty.Contents (Elt F) → Prop)
    (Px : (cc0_scratch1 : Ref sig .tc).ty.Contents (Elt F) → Prop) (Po : (cc0_stg5_0 : Ref sig .tc).ty.Contents (Elt F) → Prop) : sProp 𝕄 :=
  iprop(lsep (gtI m ρ c) gt ∗ lsep (slI c) sl ∗ lsep (rwI m ρ c) rw ∗ lsep (chI c) ch
    ∗ bufI c cc0_stg0_0 (· = xC m ρ c) ∗ bufI c cc0_stg1_0 (· = rwC m ρ c) ∗ bufI c cc0_stg2_0 (· = rtC m ρ c)
    ∗ bufI c cc0_stg3_0 (· = ewC m ρ c) ∗ bufI c cc0_stg4_0 (· = swC m ρ c)
    ∗ bufI c cc0_scratch0 Pc ∗ bufI c cc0_scratch2 Pe ∗ bufI c cc0_scratch1 Px ∗ bufI c cc0_stg5_0 Po)

def St (K : Dev nD × KIx → ℕ) (c : Dev nD) (sg w pd sn sc rv : List (Fin 16)) (z : List (Fin 3 × Fin 16)) (bar : Bool)
    (gt sl rw : List (Fin 16)) (ch : List (Fin 4))
    (Pc : (cc0_scratch0 : Ref sig .tc).ty.Contents (Elt F) → Prop) (Pe : (cc0_scratch2 : Ref sig .tc).ty.Contents (Elt F) → Prop)
    (Px : (cc0_scratch1 : Ref sig .tc).ty.Contents (Elt F) → Prop) (Po : (cc0_stg5_0 : Ref sig .tc).ty.Contents (Elt F) → Prop) : sProp 𝕄 :=
  iprop(Gh m ρ K c sg w pd sn sc rv z bar ∗ Me m ρ c gt sl rw ch Pc Pe Px Po)

/-- Running `p` on device `c` to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section
variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}
variable {α : Type} {k : PUnit → Prog (TpuEff nD τ sig (Elt F) Λ₀ .tc) α}

theorem devE {f : Dev nD → ℕ} {kk : Fin 16} (h : ∀ c : Dev nD, f c = (pl c kk).val) {c : Dev nD} {hl : f c < nD} :
    (⟨f c, hl⟩ : Dev nD) = pl c kk := Fin.ext (h c)

/-- The ready signal to the device `kk` places on. -/
theorem step_signal {Q : α → sProp 𝕄} (kk : Fin 16) (hk : kk ≠ 0) {dv : Dev nD} {sem : Sem sig} {n : ℤ} (hd : dv = pl c kk) (hs : sem = readySem (ng kk)) (hn : n = ((1 : ℕ) : ℤ))
    (h : St m ρ K c sg w pd sn sc rv z bar gt sl rw ch Pc Pe Px Po ⊢ WP c (k ⟨⟩) Q) :
    St m ρ K c (kk :: sg) w pd sn sc rv z bar gt sl rw ch Pc Pe Px Po ⊢ WP c (.op (.semSignal (dv, .tc) sem n) k) Q := by
  subst hd hs hn
  have hd' : hasDuty (.reg (readySem (ng kk))) = true := hasDuty_ready _ (by revert kk; decide)
  unfold St Gh
  rw [lsep_cons]
  iintro ⟨⟨#HR, #HL, ⟨%W, Ho⟩, ⟨⟨Ht, ⟨%f, Hs⟩⟩, Hsg⟩, Hrest⟩, HM⟩
  ihave #Hg := (rec_get m ρ K (pl c kk, some (0, ng kk))) $$ HR
  icases Hg with ⟨#Hg1, #Hg2⟩
  iapply (Rounds.wp_signal 𝒱₀ ER (ringRd m ρ) (c : Thread nD τ) none (dst := (pl c kk : Thread nD τ)) (κ := K (pl c kk, some (0, ng kk))) (r := 0) (d := ())
      (by rw [duties_first _ _ _ _ hd']; exact Finset.mem_singleton_self _) rfl () (Oready c sg + Orecv c sn)
      (show Oready c (kk :: sg) + Orecv c sn = (Oready c sg + Orecv c sn) + tallyAt (readyCell (pl c kk) (ng kk)) () 1 from add_right_comm _ _ _)) $$ [Ho Ht Hs]
  · isplitr; · iexact Hg1
    isplitl [Ho]; · iexact Ho
    isplitl [Ht]; · iexact Ht
    isplitl [Hs]
    · rw [show (ringRd (F := F) m ρ).payload ((pl c kk : Thread nD τ), SemLoc.reg (readySem (ng kk))) 0 () = readyPay (pl c kk) (ng kk) from payOf_ready m ρ _ _]
      unfold readyPay; rw [pl_ng]; iexists f; iexact Hs
    · iexact Hg2
  iintro Ho
  iapply h
  unfold St Gh
  isplitr [HM]
  · isplitr; · iexact HR
    isplitr; · iexact HL
    isplitl [Ho]; · iexists W; iexact Ho
    isplitl [Hsg] <;> iassumption
  · iexact HM

end

end Cert.Moe

end
-- ==== Proof.Regions.lean ====
/-
# Regions of the send and gather buffers, and what the stores leave

The row blocks and chunks of the send buffer and the slots of the gather buffer as element sets; splitting a buffer
along a list of them; and what a block's store, or a landed transfer, leaves in the buffer.
-/
module

public import proofs.«01_k».proof.Proof.Steps
public import Idealize.ShloMosaic.Lib.ValueLayout

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Membership -/

theorem slot_set (k : Fin 16) : (slotM k).view.set = (Rect.unit (s := S16x32x512) ![k.val, 0, 0] S1x32x512.size (slot_inb k)).set :=
  (View.set_reshape _ _).trans (View.set_slice_whole cc0_scratch4 _)
theorem row_set (k : Fin 16) : (rowM k).view.set = (Rect.unit (s := S512x512) ![32 * ((k.val + 15) % 16), 0] S32x512.size (row_inb k)).set :=
  View.set_slice_whole cc0_scratch3 _

theorem mem_slot (k : Fin 16) (i : S16x32x512.Idx) : i ∈ (slotM k).view.set ↔ (i 0).val = k.val := by
  rw [slot_set, Rect.mem_set_unit]
  have h1 : (i 1).val < 32 := (i 1).isLt
  have h2 : (i 2).val < 512 := (i 2).isLt
  constructor
  · intro h; have h0 : k.val ≤ (i 0).val ∧ (i 0).val < k.val + 1 := h 0; omega
  · intro h a
    match a with
    | ⟨0, _⟩ => show k.val ≤ (i 0).val ∧ (i 0).val < k.val + 1; omega
    | ⟨1, _⟩ => show 0 ≤ (i 1).val ∧ (i 1).val < 0 + 32; omega
    | ⟨2, _⟩ => show 0 ≤ (i 2).val ∧ (i 2).val < 0 + 512; omega

theorem mem_row (k : Fin 16) (i : S512x512.Idx) : i ∈ (rowM k).view.set ↔ (i 0).val / 32 = (k.val + 15) % 16 := by
  rw [row_set, Rect.mem_set_unit]
  have h1 : (i 1).val < 512 := (i 1).isLt
  constructor
  · intro h; have h0 : 32 * ((k.val + 15) % 16) ≤ (i 0).val ∧ (i 0).val < 32 * ((k.val + 15) % 16) + 32 := h 0; omega
  · intro h a
    match a with
    | ⟨0, _⟩ => show 32 * ((k.val + 15) % 16) ≤ (i 0).val ∧ (i 0).val < 32 * ((k.val + 15) % 16) + 32; omega
    | ⟨1, _⟩ => show 0 ≤ (i 1).val ∧ (i 1).val < 0 + 512; omega

theorem mem_chunk (q : Fin 4) (i : S512x512.Idx) : i ∈ (chunkR q).set ↔ (i 0).val / 128 = q.val := by
  rw [Rect.mem_set_unit]
  have h1 : (i 1).val < 512 := (i 1).isLt
  constructor
  · intro h; have h0 : 128 * q.val ≤ (i 0).val ∧ (i 0).val < 128 * q.val + 128 := h 0; omega
  · intro h a
    match a with
    | ⟨0, _⟩ => show 128 * q.val ≤ (i 0).val ∧ (i 0).val < 128 * q.val + 128; omega
    | ⟨1, _⟩ => show 0 ≤ (i 1).val ∧ (i 1).val < 0 + 512; omega

/-! ## Splitting along a list -/

/-- A region that is the disjoint union of the regions of a list. -/
theorem pts_lsep {A : Type} {ℓ : Loc nD τ sig} (Kf : A → Finset (Idx ℓ)) (f : Buf (Elt F) ℓ) (l : List A) :
    ∀ S : Finset (Idx ℓ), l.Pairwise (fun a b => Disjoint (Kf a) (Kf b)) → (∀ i, i ∈ S ↔ ∃ a ∈ l, i ∈ Kf a) →
      ((ℓ ↦[S]{fullShare} f : sProp 𝕄) ⊣⊢ lsep (fun a => iprop(ℓ ↦[Kf a]{fullShare} f)) l) := by
  classical
  induction l with
  | nil =>
    intro S _ hS
    have : S = ∅ := Finset.eq_empty_of_forall_notMem fun i hi => by
      obtain ⟨a, ha, _⟩ := (hS i).mp hi; exact absurd ha List.not_mem_nil
    rw [this, pointsTo_empty]; exact ⟨Entails.refl _, Entails.refl _⟩
  | cons a l ih =>
    intro S hd hS
    have hd' := List.pairwise_cons.mp hd
    let T : Finset (Idx ℓ) := S.filter fun i => ∃ b ∈ l, i ∈ Kf b
    have hT : ∀ i, i ∈ T ↔ ∃ b ∈ l, i ∈ Kf b := fun i => by
      rw [Finset.mem_filter]
      exact ⟨fun h => h.2, fun h => ⟨(hS i).mpr (by obtain ⟨b, hb, hi⟩ := h; exact ⟨b, List.mem_cons_of_mem _ hb, hi⟩), h⟩⟩
    have hST : S = Kf a ∪ T := Finset.ext fun i => by
      rw [Finset.mem_union, hT, hS]
      constructor
      · rintro ⟨b, hb, hi⟩
        rcases List.mem_cons.mp hb with rfl | hb
        · exact .inl hi
        · exact .inr ⟨b, hb, hi⟩
      · rintro (hi | ⟨b, hb, hi⟩)
        · exact ⟨a, List.mem_cons_self, hi⟩
        · exact ⟨b, List.mem_cons_of_mem _ hb, hi⟩
    have hdis : Disjoint (Kf a) T := Finset.disjoint_left.mpr fun i hi ht => by
      obtain ⟨b, hb, hib⟩ := (hT i).mp ht
      exact Finset.disjoint_left.mp (hd'.1 b hb) hi hib
    rw [hST]
    have h1 := pointsTo_union (nD := nD) (τ := τ) (sig := sig) (Ix := Unit) (Val := Elt F) (Name := ℕ) (U := UU) (Lvl := ℕ) (ℓ := ℓ) (q := fullShare) (f := f) hdis
    have h2 := ih T hd'.2 hT
    constructor
    · refine h1.1.trans ?_
      rw [lsep_cons]
      exact BIClass.sep_mono (Entails.refl _) h2.1
    · refine BIBase.Entails.trans ?_ h1.2
      rw [lsep_cons]
      exact BIClass.sep_mono (Entails.refl _) h2.2

theorem slots_disjoint (l : List (Fin 16)) (hn : l.Nodup) : l.Pairwise (fun a b => Disjoint (slotM a).view.set (slotM b).view.set) :=
  hn.imp fun {a b} hab => Finset.disjoint_left.mpr fun i ha hb => hab (Fin.ext (((mem_slot a i).mp ha).symm.trans ((mem_slot b i).mp hb)))

theorem rows_disjoint (l : List (Fin 16)) (hn : l.Nodup) : l.Pairwise (fun a b => Disjoint (rowM a).view.set (rowM b).view.set) :=
  hn.imp fun {a b} hab => Finset.disjoint_left.mpr fun i ha hb => hab (Fin.ext (by
    have h := ((mem_row a i).mp ha).symm.trans ((mem_row b i).mp hb)
    have := a.isLt; have := b.isLt; omega))

theorem chunks_disjoint (l : List (Fin 4)) (hn : l.Nodup) : l.Pairwise (fun a b => Disjoint (chunkR a).set (chunkR b).set) :=
  hn.imp fun {a b} hab => Finset.disjoint_left.mpr fun i ha hb => hab (Fin.ext (((mem_chunk a i).mp ha).symm.trans ((mem_chunk b i).mp hb)))

theorem slot_cover (i : S16x32x512.Idx) : ∃ k : Fin 16, i ∈ (slotM k).view.set := ⟨⟨(i 0).val, (i 0).isLt⟩, (mem_slot _ i).mpr rfl⟩
theorem row_cover (i : S512x512.Idx) : ∃ k : Fin 16, i ∈ (rowM k).view.set :=
  ⟨⟨((i 0).val / 32 + 1) % 16, Nat.mod_lt _ (by decide)⟩, (mem_row _ i).mpr (by
    have h : (i 0).val < 512 := (i 0).isLt
    show (i 0).val / 32 = (((i 0).val / 32 + 1) % 16 + 15) % 16; omega)⟩
theorem chunk_cover (i : S512x512.Idx) : ∃ q : Fin 4, i ∈ (chunkR q).set :=
  ⟨⟨(i 0).val / 128, by have h : (i 0).val < 512 := (i 0).isLt; omega⟩, (mem_chunk _ i).mpr rfl⟩

/-- The elements of the gather buffer, at its location on device `c`. -/
abbrev gaLoc (c : Dev nD) : Loc nD τ sig := gaM.view.loc (c : Thread nD τ)
abbrev sbLoc (c : Dev nD) : Loc nD τ sig := sbM.view.loc (c : Thread nD τ)
abbrev slotSet (c : Dev nD) (k : Fin 16) : Finset (Idx (gaLoc c)) := (slotM k).view.set
abbrev rowSet (c : Dev nD) (k : Fin 16) : Finset (Idx (sbLoc c)) := (rowM k).view.set
abbrev chunkSet (c : Dev nD) (q : Fin 4) : Finset (Idx (sbLoc c)) := (chunkR q).set

/-- All sixteen slots are the gather buffer. -/
theorem slots_whole (c : Dev nD) (l : List (Fin 16)) (hn : l.Nodup) (hc : ∀ k, k ∈ l) (f : Buf (Elt F) (gaLoc c)) :
    ((gaLoc c ↦[Finset.univ]{fullShare} f : sProp 𝕄) ⊣⊢ lsep (fun k => gaLoc c ↦[slotSet c k]{fullShare} f) l) :=
  pts_lsep (ℓ := gaLoc c) (slotSet c) f l Finset.univ (slots_disjoint l hn) fun i =>
    ⟨fun _ => (slot_cover i).elim fun k hk => ⟨k, hc k, hk⟩, fun _ => Finset.mem_univ i⟩

/-- All sixteen row blocks are the send buffer. -/
theorem rows_whole (c : Dev nD) (l : List (Fin 16)) (hn : l.Nodup) (hc : ∀ k, k ∈ l) (f : Buf (Elt F) (sbLoc c)) :
    ((sbLoc c ↦[Finset.univ]{fullShare} f : sProp 𝕄) ⊣⊢ lsep (fun k => sbLoc c ↦[rowSet c k]{fullShare} f) l) :=
  pts_lsep (ℓ := sbLoc c) (rowSet c) f l Finset.univ (rows_disjoint l hn) fun i =>
    ⟨fun _ => (row_cover i).elim fun k hk => ⟨k, hc k, hk⟩, fun _ => Finset.mem_univ i⟩

/-- All four chunks are the send buffer. -/
theorem chunks_whole (c : Dev nD) (l : List (Fin 4)) (hn : l.Nodup) (hc : ∀ k, k ∈ l) (f : Buf (Elt F) (sbLoc c)) :
    ((sbLoc c ↦[Finset.univ]{fullShare} f : sProp 𝕄) ⊣⊢ lsep (fun q => sbLoc c ↦[chunkSet c q]{fullShare} f) l) :=
  pts_lsep (ℓ := sbLoc c) (chunkSet c) f l Finset.univ (chunks_disjoint l hn) fun i =>
    ⟨fun _ => (chunk_cover i).elim fun k hk => ⟨k, hc k, hk⟩, fun _ => Finset.mem_univ i⟩

/-- The row blocks of chunk `q`, by the places on they are sent. -/
def rowsOf (q : Fin 4) : List (Fin 16) :=
  [⟨(4 * q.val + 1) % 16, Nat.mod_lt _ (by decide)⟩, ⟨(4 * q.val + 2) % 16, Nat.mod_lt _ (by decide)⟩,
    ⟨(4 * q.val + 3) % 16, Nat.mod_lt _ (by decide)⟩, ⟨(4 * q.val + 4) % 16, Nat.mod_lt _ (by decide)⟩]

theorem rowsOf_nodup (q : Fin 4) : (rowsOf q).Nodup := by revert q; decide
theorem mem_rowsOf (q : Fin 4) (k : Fin 16) : k ∈ rowsOf q ↔ (k.val + 15) % 16 / 4 = q.val := by revert q k; decide

theorem mem_chunk_rows (q : Fin 4) (i : S512x512.Idx) : i ∈ (chunkR q).set ↔ ∃ k ∈ rowsOf q, i ∈ (rowM k).view.set := by
  have hi : (i 0).val < 512 := (i 0).isLt
  rw [mem_chunk]
  constructor
  · intro h
    refine ⟨⟨((i 0).val / 32 + 1) % 16, Nat.mod_lt _ (by decide)⟩, (mem_rowsOf _ _).mpr ?_, (mem_row _ i).mpr ?_⟩
    · show (((i 0).val / 32 + 1) % 16 + 15) % 16 / 4 = q.val; omega
    · show (i 0).val / 32 = (((i 0).val / 32 + 1) % 16 + 15) % 16; omega
  · rintro ⟨k, hk, hik⟩
    have h1 := (mem_rowsOf _ _).mp hk
    have h2 := (mem_row _ i).mp hik
    omega

/-- A chunk is its four row blocks. -/
theorem chunk_rows (c : Dev nD) (q : Fin 4) (f : Buf (Elt F) (sbLoc c)) :
    ((sbLoc c ↦[chunkSet c q]{fullShare} f : sProp 𝕄) ⊣⊢ lsep (fun k => sbLoc c ↦[rowSet c k]{fullShare} f) (rowsOf q)) :=
  pts_lsep (ℓ := sbLoc c) (rowSet c) f (rowsOf q) (chunkSet c q) (rows_disjoint _ (rowsOf_nodup q)) (mem_chunk_rows q)

theorem lsep_mono {A : Type} {Φ Ψ : A → sProp 𝕄} (h : ∀ a, Φ a ⊢ Ψ a) (l : List A) : lsep Φ l ⊢ lsep Ψ l := by
  induction l with
  | nil => exact Entails.refl _
  | cons a l ih => exact BIClass.sep_mono (h a) ih

theorem lsep_app {A : Type} (Φ : A → sProp 𝕄) (l l' : List A) : iprop(lsep Φ l ∗ lsep Φ l') ⊢ lsep Φ (l ++ l') := by
  induction l with
  | nil =>
    show iprop(emp ∗ lsep Φ l') ⊢ lsep Φ l'
    iintro ⟨-, H⟩; iexact H
  | cons b l ih =>
    show iprop((Φ b ∗ lsep Φ l) ∗ lsep Φ l') ⊢ iprop(Φ b ∗ lsep Φ (l ++ l'))
    iintro ⟨⟨Hb, Hl⟩, Ha⟩
    isplitl [Hb]; · iexact Hb
    iapply ih
    isplitl [Hl] <;> iassumption

/-! ## What the stores leave -/

section Stores
variable (c : Dev nD)

/-- The first `32 n` rows of the weighted rows are in place. -/
def XWp (n : ℕ) (f : (cc0_scratch1 : Ref sig .tc).ty.Contents (Elt F)) : Prop := ∀ i : S512x1024.Idx, (i 0).val < 32 * n → f i = xwC m ρ c i
/-- The first `n` experts are in place. -/
def EBp (n : ℕ) (f : (cc0_scratch2 : Ref sig .tc).ty.Contents (Elt F)) : Prop := ∀ i : S4x256x512.Idx, (i 0).val < n → f i = ebC m ρ c i

theorem XWp_full {f : (cc0_scratch1 : Ref sig .tc).ty.Contents (Elt F)} (h : XWp m ρ c 16 f) : f = xwC m ρ c :=
  funext fun i => h i (show (i 0).val < 512 from (i 0).isLt)
theorem EBp_full {f : (cc0_scratch2 : Ref sig .tc).ty.Contents (Elt F)} (h : EBp m ρ c 4 f) : f = ebC m ρ c :=
  funext fun i => h i (show (i 0).val < 4 from (i 0).isLt)

theorem xwC_at (j : Fin 16) (x : S32x1024.Idx) (i : S512x1024.Idx) (h0 : (i 0).val = 32 * j.val + (x 0).val) (h1 : (i 1).val = (x 1).val) :
    xwC m ρ c i = xwBlk m ρ c j x := by
  have hx0 : (x 0).val < 32 := (x 0).isLt
  have hj : (i 0).val / 32 = j.val := by omega
  have hr : (i 0).val % 32 = (x 0).val := by omega
  have e1 : (⟨(i 0).val / 32, by rw [hj]; exact j.isLt⟩ : Fin 16) = j := Fin.ext hj
  have e2 : ValueIdx.ix2 (⟨(i 0).val % 32, Nat.mod_lt _ (by decide)⟩ : Fin 32) (i 1) = x := by
    funext a
    match a with
    | ⟨0, _⟩ => exact Fin.ext hr
    | ⟨1, _⟩ => exact Fin.ext h1
  exact (congrArg (fun j' => xwBlk m ρ c j' _) e1).trans (congrArg (xwBlk m ρ c j) e2)

theorem ebC_at (e : Fin 4) (x : S1x256x512.Idx) (i : S4x256x512.Idx) (h0 : (i 0).val = e.val) (h1 : (i 1).val = (x 1).val) (h2 : (i 2).val = (x 2).val) :
    ebC m ρ c i = ewBlk m ρ c e x := by
  have hx0 : (x 0).val < 1 := (x 0).isLt
  have e1 : (⟨(i 0).val, (i 0).isLt⟩ : Fin 4) = e := Fin.ext h0
  have e2 : ValueIdx.ix3 (0 : Fin 1) (i 1) (i 2) = x := by
    funext a
    match a with
    | ⟨0, _⟩ => exact Fin.ext (by show 0 = (x 0).val; omega)
    | ⟨1, _⟩ => exact Fin.ext h1
    | ⟨2, _⟩ => exact Fin.ext h2
  exact (congrArg (fun j' => ewBlk m ρ c j' _) e1).trans (congrArg (ewBlk m ρ c e) e2)

theorem sbC_at (q : Fin 4) (x : S128x512.Idx) (i : S512x512.Idx) (h0 : (i 0).val = 128 * q.val + (x 0).val) (h1 : (i 1).val = (x 1).val) :
    sbC m ρ c i = sbBlk m ρ c q x := by
  have hx0 : (x 0).val < 128 := (x 0).isLt
  have hj : (i 0).val / 128 = q.val := by omega
  have hr : (i 0).val % 128 = (x 0).val := by omega
  have e1 : (⟨(i 0).val / 128, by rw [hj]; exact q.isLt⟩ : Fin 4) = q := Fin.ext hj
  have e2 : ValueIdx.ix2 (⟨(i 0).val % 128, Nat.mod_lt _ (by decide)⟩ : Fin 128) (i 1) = x := by
    funext a
    match a with
    | ⟨0, _⟩ => exact Fin.ext hr
    | ⟨1, _⟩ => exact Fin.ext h1
  exact (congrArg (fun j' => sbBlk m ρ c j' _) e1).trans (congrArg (sbBlk m ρ c q) e2)

theorem xw_store (j : Fin 16) {f : (cc0_scratch1 : Ref sig .tc).ty.Contents (Elt F)} {w : FVec F S32x1024 .bf16}
    (hf : XWp m ρ c j.val f) (hw : w = xwBlk m ρ c j) :
    XWp m ρ c (j.val + 1) ((xwM.access (xwrowR j)).write (Elt F) f w Finset.univ) := by
  intro i hi
  by_cases h : i ∈ (xwrowR j).set
  · rw [← Rect.map_emb_univ] at h
    obtain ⟨x, -, rfl⟩ := Finset.mem_map.mp h
    refine ((xwM.access (xwrowR j)).write_emb_of_mem f w (Finset.mem_univ x)).trans ?_
    rw [hw]
    exact (xwC_at m ρ c j x _ (by show 32 * j.val + 1 * (x 0).val = _; omega) (by show 0 + 1 * (x 1).val = _; omega)).symm
  · refine ((xwM.access (xwrowR j)).write_of_not_mem f w Finset.univ ?_).trans (hf i ?_)
    · rw [View.setOn_univ]; exact fun h' => h ((View.set_slice_whole cc0_scratch1 (xwrowR j)) ▸ h')
    · rw [Rect.mem_set_unit] at h
      by_contra hlt
      refine h fun a => ?_
      match a with
      | ⟨0, _⟩ => show 32 * j.val ≤ (i 0).val ∧ (i 0).val < 32 * j.val + 32; omega
      | ⟨1, _⟩ =>
        have h1 : (i 1).val < 1024 := (i 1).isLt
        show 0 ≤ (i 1).val ∧ (i 1).val < 0 + 1024; omega

theorem eb_store (e : Fin 4) {f : (cc0_scratch2 : Ref sig .tc).ty.Contents (Elt F)} {w : FVec F S1x256x512 .bf16}
    (hf : EBp m ρ c e.val f) (hw : w = ewBlk m ρ c e) :
    EBp m ρ c (e.val + 1) ((ebM.access (expertR e)).write (Elt F) f w Finset.univ) := by
  intro i hi
  by_cases h : i ∈ (expertR e).set
  · rw [← Rect.map_emb_univ] at h
    obtain ⟨x, -, rfl⟩ := Finset.mem_map.mp h
    refine ((ebM.access (expertR e)).write_emb_of_mem f w (Finset.mem_univ x)).trans ?_
    rw [hw]
    have hx0 : (x 0).val < 1 := (x 0).isLt
    exact (ebC_at m ρ c e x _ (by show e.val + 1 * (x 0).val = _; omega) (by show 0 + 1 * (x 1).val = _; omega) (by show 0 + 1 * (x 2).val = _; omega)).symm
  · refine ((ebM.access (expertR e)).write_of_not_mem f w Finset.univ ?_).trans (hf i ?_)
    · rw [View.setOn_univ]; exact fun h' => h ((View.set_slice_whole cc0_scratch2 (expertR e)) ▸ h')
    · rw [Rect.mem_set_unit] at h
      by_contra hlt
      refine h fun a => ?_
      have h1 : (i 1).val < 256 := (i 1).isLt
      have h2 : (i 2).val < 512 := (i 2).isLt
      match a with
      | ⟨0, _⟩ => show e.val ≤ (i 0).val ∧ (i 0).val < e.val + 1; omega
      | ⟨1, _⟩ => show 0 ≤ (i 1).val ∧ (i 1).val < 0 + 256; omega
      | ⟨2, _⟩ => show 0 ≤ (i 2).val ∧ (i 2).val < 0 + 512; omega

/-- A chunk stored at its computed block holds the send buffer's contents. -/
theorem chunk_store (q : Fin 4) (f : (cc0_scratch3 : Ref sig .tc).ty.Contents (Elt F)) (w : FVec F S128x512 .bf16) (hw : w = sbBlk m ρ c q)
    (i : S512x512.Idx) (hi : i ∈ (chunkR q).set) : (sbM.access (chunkR q)).write (Elt F) f w Finset.univ i = sbC m ρ c i := by
  rw [← Rect.map_emb_univ] at hi
  obtain ⟨x, -, rfl⟩ := Finset.mem_map.mp hi
  refine ((sbM.access (chunkR q)).write_emb_of_mem f w (Finset.mem_univ x)).trans ?_
  rw [hw]
  exact (sbC_at m ρ c q x _ (by show 128 * q.val + 1 * (x 0).val = _; omega) (by show 0 + 1 * (x 1).val = _; omega)).symm

/-- The elements of a slot, by row and column. -/
theorem slot_emb (k : Fin 16) (x : S32x512.Idx) : ((slotM k).view.emb x : S16x32x512.Idx) = ValueIdx.ix3 k (x 0) (x 1) := by
  obtain ⟨a, b, rfl⟩ : ∃ a b, x = ValueIdx.ix2 a b := ⟨x 0, x 1, (ix2_eta x).symm⟩
  have h : ((slotM k).view.emb (ValueIdx.ix2 a b) : S16x32x512.Idx)
      = (Rect.unit (s := S16x32x512) ![k.val, 0, 0] S1x32x512.size (slot_inb k)).emb (Shape.reshapeEquiv squeezes_S1x32x512_S32x512.numel_eq (ValueIdx.ix2 a b)) := rfl
  rw [h, reshapeEquiv_ix2_1ab]
  funext t
  match t with
  | ⟨0, _⟩ => exact Fin.ext (by show k.val + 1 * 0 = k.val; omega)
  | ⟨1, _⟩ => exact Fin.ext (by show 0 + 1 * a.val = a.val; omega)
  | ⟨2, _⟩ => exact Fin.ext (by show 0 + 1 * b.val = b.val; omega)

theorem gaC_at (d : Dev nD) (k : Fin 16) (a : Fin 32) (b : Fin 512) (r : Fin 512) (hr : r.val = 32 * ((k.val + 15) % 16) + a.val) :
    gaC m ρ d (ValueIdx.ix3 k a b) = sbC m ρ (pl d (ng k)) (ValueIdx.ix2 r b) := by
  show sbC m ρ (pl d (ng ⟨k.val, _⟩)) (ValueIdx.ix2 (⟨32 * ((k.val + 15) % 16) + a.val, _⟩ : Fin 512) b) = _
  congr 2
  exact Fin.ext hr.symm

/-- A landed row block: slot `k` of the device `k` places on holds that device's gather contents. -/
theorem land_slot (k : Fin 16) (fd : (cc0_scratch4 : Ref sig .tc).ty.Contents (Elt F)) (i : S16x32x512.Idx) (hi : i ∈ (slotM k).view.set) :
    (slotM k).view.write (Elt F) fd ((rowM k).view.read (Elt F) (sbC m ρ c)) Finset.univ i = gaC m ρ (pl c k) i := by
  obtain ⟨x, -, rfl⟩ := Finset.mem_map.mp hi
  refine ((slotM k).view.write_emb_of_mem fd _ (Finset.mem_univ x)).trans ?_
  have hx0 : (x 0).val < 32 := (x 0).isLt
  have hk := k.isLt
  refine Eq.trans ?_ (congrArg (gaC m ρ (pl c k)) (slot_emb k x)).symm
  refine Eq.trans ?_ (gaC_at m ρ (pl c k) k (x 0) (x 1) ⟨32 * ((k.val + 15) % 16) + (x 0).val, by omega⟩ rfl).symm
  rw [pl_ng]
  show sbC m ρ c ((rowM k).view.emb x) = _
  congr 1
  funext a
  match a with
  | ⟨0, _⟩ => exact Fin.ext (by show 32 * ((k.val + 15) % 16) + 1 * (x 0).val = 32 * ((k.val + 15) % 16) + (x 0).val; omega)
  | ⟨1, _⟩ => exact Fin.ext (by show 0 + 1 * (x 1).val = (x 1).val; omega)

abbrev slotR0 : Rect S16x32x512 := Rect.unit (s := S16x32x512) ![0, 0, 0] S1x32x512.size inb_S16x32x512_S1x32x512_0_0_0
abbrev rowR0 : Rect S512x512 := Rect.unit (s := S512x512) ![480, 0] S32x512.size inb_S512x512_S32x512_480_0

/-- The device's own row block, kept in slot 0. -/
theorem own_slot (fd : (cc0_scratch4 : Ref sig .tc).ty.Contents (Elt F)) (i : S16x32x512.Idx) (hi : i ∈ (slotM 0).view.set) :
    (gaM.access slotR0).write (Elt F) fd (k0_pay46 (sbM.view.readAt (Elt F) rowR0.toLoadRect (sbC m ρ c))) Finset.univ i = gaC m ρ c i := by
  rw [slot_set, ← Rect.map_emb_univ] at hi
  obtain ⟨x, -, rfl⟩ := Finset.mem_map.mp hi
  refine ((gaM.access slotR0).write_emb_of_mem fd _ (Finset.mem_univ x)).trans ?_
  obtain ⟨u, a, b, rfl⟩ : ∃ u a b, x = ValueIdx.ix3 (u : Fin 1) (a : Fin 32) (b : Fin 512) := ⟨x 0, x 1, x 2, (ix3_eta x).symm⟩
  have he : (slotR0.emb (ValueIdx.ix3 u a b) : S16x32x512.Idx) = ValueIdx.ix3 (0 : Fin 16) a b := by
    funext t
    match t with
    | ⟨0, _⟩ => exact Fin.ext (by show 0 + 1 * u.val = 0; omega)
    | ⟨1, _⟩ => exact Fin.ext (by show 0 + 1 * a.val = a.val; omega)
    | ⟨2, _⟩ => exact Fin.ext (by show 0 + 1 * b.val = b.val; omega)
  refine Eq.trans ?_ (congrArg (gaC m ρ c) he).symm
  refine Eq.trans ?_ (gaC_at m ρ c 0 a b ⟨480 + a.val, by omega⟩ rfl).symm
  have hp : pl c (ng 0) = c := by revert c; decide +kernel
  rw [hp]
  show k0_pay46 (sbM.view.readAt (Elt F) rowR0.toLoadRect (sbC m ρ c)) (ValueIdx.ix3 u a b) = _
  unfold k0_pay46
  refine (shapeCast_ab_1ab_apply _ _ u a b).trans ?_
  show sbC m ρ c (rowR0.emb (ValueIdx.ix2 a b)) = _
  congr 1
  funext t
  match t with
  | ⟨0, _⟩ => exact Fin.ext (by show 480 + 1 * a.val = 480 + a.val; omega)
  | ⟨1, _⟩ => exact Fin.ext (by show 0 + 1 * b.val = b.val; omega)

end Stores

end Cert.Moe

end
-- ==== Proof.Moves.lean ====
/-
# The other operations, one at a time

The barrier, the ready waits, the transfers, the waits for arrivals and for sends, and the loads and stores.
-/
module

public import proofs.«01_k».proof.Proof.Regions

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}
variable {α : Type}

/-! ## Waits -/

/-- A wait for the one round of a cell: what its payer handed over, and the cell back at zero. -/
theorem wait_core {Q : α → sProp 𝕄} {k : PUnit → Prog (TpuEff nD τ sig (Elt F) Λ₀ .tc) α} (ix : KIx) (hd : hasDuty (asem ix) = true)
    {wt : TpuEff nD τ sig (Elt F) Λ₀ .tc PUnit} {n : ℕ}
    (hw : ∀ K' : PUnit → sProp 𝕄, wpE (defs₀ (F := F)) 𝒱₀ (c : Thread nD τ) none Set.univ wt K' = waitSpec (c : Thread nD τ) Set.univ (asem ix) n K')
    (hn : n = amtOf (asem ix)) {O : CellTallies nD τ sig Unit} (hM : (levAts L lv : sProp 𝕄) ⊢ MayWait (c : Thread nD τ) (asem ix) () O) (W : Waits sig Unit) :
    iprop(records m ρ K ∗ levAts L lv ∗ cred (tallyAt (acell (c, ix)) () (amtOf (asem ix))) ∗ owes (c : Thread nD τ) O W ∗ atPos ER (acell (c, ix)) 0 ∅ 0)
      ⊢ iprop((((∃ W, owes (c : Thread nD τ) O W) ∗ semVal (acell (c, ix)) 0 ∗ payOf m ρ c (asem ix)) -∗ WP c (k ⟨⟩) Q) -∗ WP c (.op wt k) Q) := by
  subst hn
  iintro ⟨#HR, #HL, Hc, Ho, Hat⟩
  ihave #Hg := (rec_get m ρ K (c, ix)) $$ HR
  icases Hg with ⟨#Hg1, #Hg2⟩
  iintro Hk
  iapply (Rounds.wp_wait_rest_token 𝒱₀ ER (ringRd m ρ) (c : Thread nD τ) none (κ := K (c, ix)) hw (Set.mem_univ _) () (O := O) (W := W) (R := 0) (m := 0) (T := ∅)
      (by rw [Nat.zero_add, expect_first m ρ c _ hd])) $$ [Hc Ho Hat]
  · isplitr; · iexact Hg1
    isplitl [Hc]; · iexact Hc
    isplitl [Ho]; · iexact Ho
    isplitr; · iapply hM; iexact HL
    iexact Hat
  iintro ⟨Ho, Hat, -, Hpay⟩
  ihave Hp := (Entails.of_eq (rest_first m ρ c _ hd)) $$ Hpay
  imod (Rounds.cell_close ER (ringRd m ρ) (Set.mem_univ (K (c, ix))) (fun h => h) (R := 0 + 1) (duties_later m ρ (acell (c, ix)))) $$ [Hat] with Hz
  · isplitr; · iexact Hg1
    iexact Hat
  iapply Hk
  isplitl [Ho]; · iexists _; iexact Ho
  isplitl [Hz] <;> iassumption

/-- The signal to the device's own barrier and the wait for it. -/
theorem step_bar {Q : α → sProp 𝕄} {k : PUnit → Prog (TpuEff nD τ sig (Elt F) Λ₀ .tc) α} {dv : Dev nD} {sem sem' : Sem sig} {n n' : ℤ} (hd : dv = c) (hs : sem = barSem) (hs' : sem' = barSem)
    (hn : n = ((1 : ℕ) : ℤ)) (hn' : n' = ((1 : ℕ) : ℤ))
    (h : St m ρ K c [] w pd sn sc rv z true gt sl rw ch Pc Pe Px Po ⊢ WP c (k ⟨⟩) Q) :
    St m ρ K c [] w pd sn sc rv z false gt sl rw ch Pc Pe Px Po
      ⊢ WP c (.op (.semSignal (dv, .tc) sem n) fun _ => .op (.semWait sem' n') k) Q := by
  subst hd hs hs' hn hn'
  unfold St Gh barI
  iintro ⟨⟨#HR, #HL, ⟨%W, Ho⟩, Hsg, Hw, Hpd, Hsn, Hsc, Hrv, Hz, Ht, Hat⟩, HM⟩
  ihave #Hg := (rec_get m ρ K (dv, none)) $$ HR
  icases Hg with ⟨#Hg1, #Hg2⟩
  ihave Hl := (Rounds.land_held ER (ringRd m ρ) (κ := K (dv, none)) (g := barCell dv) (r := 0) (d := ())
    (by rw [duties_first _ _ _ _ (by decide)]; exact Finset.mem_singleton_self _)) $$ [Ht]
  · isplitr; · iexact Hg1
    isplitr
    · rw [show (ringRd (F := F) m ρ).payload (barCell dv) 0 () = iprop(emp) from payOf_bar m ρ dv]; iempintro
    isplitl [Ht]; · iexact Ht
    iexact Hg2
  iapply (wp_semSignal_unpaid 𝒱₀ (dv : Thread nD τ) none Set.univ ()) $$ Hl
  iintro Hc
  iapply (wait_core m ρ (K := K) (c := dv) none (by decide) (wpE_semWait_eq 𝒱₀ (dv : Thread nD τ) none Set.univ) rfl (mayWait_reg dv barSem sn) W) $$ [Hc Ho Hat]
  · isplitr; · iexact HR
    isplitr; · iexact HL
    isplitl [Hc]; · iexact Hc
    isplitl [Ho]; · iexact Ho
    iexact Hat
  iintro ⟨Ho, Hz', -⟩
  iapply h
  unfold St Gh
  rw [show barI (F := F) dv true = semVal (acell (dv, none)) 0 from rfl]
  iframe HM
  iframe
  iframe HR HL

/-- The wait for the ready signal of slot `kk`: that slot on the device `kk` places on. -/
theorem step_ready {Q : α → sProp 𝕄} {k : PUnit → Prog (TpuEff nD τ sig (Elt F) Λ₀ .tc) α} (kk : Fin 16) (hk : kk ≠ 0) {sem : Sem sig} {n : ℤ} (hs : sem = readySem kk) (hn : n = ((1 : ℕ) : ℤ))
    (h : St m ρ K c [] w (kk :: pd) sn sc rv ((0, kk) :: z) bar gt sl rw ch Pc Pe Px Po ⊢ WP c (k ⟨⟩) Q) :
    St m ρ K c [] (kk :: w) pd sn sc rv z bar gt sl rw ch Pc Pe Px Po ⊢ WP c (.op (.semWait sem n) k) Q := by
  subst hs hn
  unfold St Gh
  rw [lsep_cons]
  iintro ⟨⟨#HR, #HL, ⟨%W, Ho⟩, Hsg, ⟨⟨Hat, Hc⟩, Hw⟩, Hpd, Hsn, Hsc, Hrv, Hz, Hb⟩, HM⟩
  iapply (wait_core m ρ (K := K) (c := c) (some (0, kk)) (hasDuty_ready kk hk) (wpE_semWait_eq 𝒱₀ (c : Thread nD τ) none Set.univ) rfl (mayWait_reg c (readySem kk) sn) W) $$ [Hc Ho Hat]
  · isplitr; · iexact HR
    isplitr; · iexact HL
    isplitl [Hc]; · iexact Hc
    isplitl [Ho]; · iexact Ho
    iexact Hat
  iintro ⟨Ho, Hz', Hp⟩
  ihave Hp := (Entails.of_eq (show payOf m ρ c (asem (some (0, kk))) = readyPay c kk from payOf_ready m ρ c kk)) $$ Hp
  iapply h
  unfold St Gh
  rw [lsep_cons, lsep_cons]
  iframe HM
  iframe
  iframe HR HL
  iexact Hz'

/-- The wait for the arrival in slot `kk`. -/
theorem step_recv {Q : α → sProp 𝕄} {k : PUnit → Prog (TpuEff nD τ sig (Elt F) Λ₀ .tc) α} (kk : Fin 16) (hk : kk ≠ 0) {sem : DmaSem sig}
    {s₁ s₂ : Shape} {e₁ e₂ : EltTy} {sp₁ sp₂ : CoreSpace} {src : Memref sig .tc sp₁ s₁ e₁} {dst : Memref sig .tc sp₂ s₂ e₂}
    {hsrc : src.view.WordExact} {hdst : dst.view.WordExact} (hs : sem = recvSem kk) (hn : dst.view.amount (.dma sem) = N)
    (h : St m ρ K c [] w pd [] sc rv ((2, kk) :: z) bar (kk :: gt) sl rw ch Pc Pe Px Po ⊢ WP c (k ⟨⟩) Q) :
    St m ρ K c [] w pd [] sc (kk :: rv) z bar gt sl rw ch Pc Pe Px Po ⊢ WP c (.op (.waitDma2 sem src dst hsrc hdst) k) Q := by
  subst hs
  unfold St Gh
  rw [lsep_cons (rvI c)]
  iintro ⟨⟨#HR, #HL, ⟨%W, Ho⟩, Hsg, Hw, Hpd, Hsn, Hsc, ⟨⟨Hat, Hc⟩, Hrv⟩, Hz, Hb⟩, HM⟩
  iapply (wait_core m ρ (K := K) (c := c) (some (2, kk)) (hasDuty_recv kk hk) (wpE_waitDma2_eq 𝒱₀ (c : Thread nD τ) none Set.univ) hn
    (O := Oready c [] + Orecv c []) (by rw [show Oready c [] + Orecv c [] = 0 from add_zero 0, MayWait_zero]; iintro -; iempintro) W) $$ [Hc Ho Hat]
  · isplitr; · iexact HR
    isplitr; · iexact HL
    isplitl [Hc]; · iexact Hc
    isplitl [Ho]; · iexact Ho
    iexact Hat
  iintro ⟨Ho, Hz', Hp⟩
  ihave Hp := (Entails.of_eq (show payOf m ρ c (asem (some (2, kk))) = recvPay m ρ c kk from payOf_recv m ρ c kk)) $$ Hp
  iapply h
  unfold St Gh Me recvPay
  rw [lsep_cons (zI c), lsep_cons (gtI m ρ c)]
  icases HM with ⟨HM1, HM⟩
  iframe HM HM1 Hp
  iframe
  iframe HR HL
  iexact Hz'

/-- The wait for the send of row block `kk`. -/
theorem step_sent {Q : α → sProp 𝕄} {k : PUnit → Prog (TpuEff nD τ sig (Elt F) Λ₀ .tc) α} (kk : Fin 16) (hk : kk ≠ 0) {sem : DmaSem sig}
    {s₁ s₂ : Shape} {e₁ e₂ : EltTy} {sp₁ sp₂ : CoreSpace} {src : Memref sig .tc sp₁ s₁ e₁} {dst : Memref sig .tc sp₂ s₂ e₂}
    {hsrc : src.view.WordExact} {hdst : dst.view.WordExact} (hs : sem = sendSem kk) (hn : dst.view.amount (.dma sem) = N)
    (h : St m ρ K c [] w pd [] sc rv ((1, kk) :: z) bar gt sl (kk :: rw) ch Pc Pe Px Po ⊢ WP c (k ⟨⟩) Q) :
    St m ρ K c [] w pd [] (kk :: sc) rv z bar gt sl rw ch Pc Pe Px Po ⊢ WP c (.op (.waitDma2 sem src dst hsrc hdst) k) Q := by
  subst hs
  unfold St Gh
  rw [lsep_cons (scI c)]
  iintro ⟨⟨#HR, #HL, ⟨%W, Ho⟩, Hsg, Hw, Hpd, Hsn, ⟨⟨Hat, Hc⟩, Hsc⟩, Hrv, Hz, Hb⟩, HM⟩
  iapply (wait_core m ρ (K := K) (c := c) (some (1, kk)) (hasDuty_send kk hk) (wpE_waitDma2_eq 𝒱₀ (c : Thread nD τ) none Set.univ) hn
    (O := Oready c [] + Orecv c []) (by rw [show Oready c [] + Orecv c [] = 0 from add_zero 0, MayWait_zero]; iintro -; iempintro) W) $$ [Hc Ho Hat]
  · isplitr; · iexact HR
    isplitr; · iexact HL
    isplitl [Hc]; · iexact Hc
    isplitl [Ho]; · iexact Ho
    iexact Hat
  iintro ⟨Ho, Hz', Hp⟩
  ihave Hp := (Entails.of_eq (show payOf m ρ c (asem (some (1, kk))) = sendPay m ρ c kk from payOf_send m ρ c kk)) $$ Hp
  iapply h
  unfold St Gh Me sendPay
  rw [lsep_cons (zI c), lsep_cons (rwI m ρ c)]
  icases HM with ⟨HM1, HM2, HM3, HM⟩
  iframe HM HM1 HM2 HM3 Hp
  iframe
  iframe HR HL
  iexact Hz'

end Cert.Moe

end
-- ==== Proof.Send.lean ====
/-
# The transfers
-/
module

public import proofs.«01_k».proof.Proof.Moves

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}
variable {α : Type}

theorem land_pts (c : Dev nD) (k : Fin 16) (fd : Buf (Elt F) (gaLoc (pl c k))) :
    (gaLoc (pl c k) ↦[slotSet (pl c k) k]{fullShare} ((slotM k).view.write (Elt F) fd ((rowM k).view.read (Elt F) (sbC m ρ c)) Finset.univ) : sProp 𝕄)
      = recvPay m ρ (pl c k) k :=
  pointsTo_congr (ℓ := gaLoc (pl c k)) (I := slotSet (pl c k) k) (fun i hi => land_slot m ρ c k fd i hi)

theorem pay_send (c : Dev nD) (k : Fin 16) : (ringRd (F := F) m ρ).payload (sendCell c k) 0 () = (sbLoc c ↦[rowSet c k]{fullShare} sbC m ρ c) :=
  payOf_send m ρ c k
theorem pay_recv (c : Dev nD) (k : Fin 16) : (ringRd (F := F) m ρ).payload (recvCell c k) 0 () = recvPay m ρ c k := payOf_recv m ρ c k

theorem hpay1 (c : Dev nD) (kk : Fin 16) : ((rowM kk).view.loc (c : Thread nD τ) ↦[(rowM kk).view.set]{fullShare} sbC m ρ c : sProp 𝕄) ⊢ (ringRd (F := F) m ρ).payload ((c : Thread nD τ), .dma (sendSem kk)) 0 () :=
  Entails.of_eq (pay_send m ρ c kk).symm
theorem hpay2 (c : Dev nD) (kk : Fin 16) (fd : Buf (Elt F) (gaLoc (pl c kk))) :
   ((slotM kk).view.loc (pl c kk : Thread nD τ) ↦[(slotM kk).view.set]{fullShare} ((slotM kk).view.write (Elt F) fd ((rowM kk).view.read (Elt F) (sbC m ρ c)) Finset.univ) : sProp 𝕄)
    ⊢ (ringRd (F := F) m ρ).payload ((pl c kk : Thread nD τ), .dma (recvSem kk)) 0 () :=
  (Entails.of_eq (land_pts m ρ c kk fd)).trans (Entails.of_eq (pay_recv m ρ (pl c kk) kk).symm)
theorem hamt (kk : Fin 16) : (slotM kk).view.amount (.dma (recvSem kk)) = N := rfl
theorem hd1 (c : Dev nD) (kk : Fin 16) (hk : kk ≠ 0) : () ∈ (ringRd (F := F) m ρ).duties ((c : Thread nD τ), .dma (sendSem kk)) 0 := by
  rw [duties_first _ _ _ _ (hasDuty_send kk hk)]; exact Finset.mem_singleton_self _
theorem hd2 (c : Dev nD) (kk : Fin 16) (hk : kk ≠ 0) : () ∈ (ringRd (F := F) m ρ).duties ((c : Thread nD τ), .dma (recvSem kk)) 0 := by
  rw [duties_first _ _ _ _ (hasDuty_recv kk hk)]; exact Finset.mem_singleton_self _

theorem hO (c : Dev nD) (kk : Fin 16) (sn : List (Fin 16)) : Oready c [] + Orecv c (kk :: sn) = (Oready c [] + Orecv c sn) + tallyAt (recvCell (pl c kk) kk) () N :=
  (add_assoc _ _ _).symm

theorem send_core {Q : α → sProp 𝕄} {k : PUnit → Prog (TpuEff nD τ sig (Elt F) Λ₀ .tc) α} (kk : Fin 16) (hk : kk ≠ 0)
    {hsc : (slotM kk).view.ref.isScScratch = false} {hsrc : (rowM kk).view.WordExact} {hdst : (slotM kk).view.WordExact}
    {hsem : DmaTarget.Typed .vmem (.dma (recvSem kk)) (.remote (Dev.tc (pl c kk) : Thread nD τ) (slotM kk) (.dma (sendSem kk)) hsc)}
    (fd : Buf (Elt F) (gaLoc (pl c kk))) (W : Waits sig Unit) :
    iprop(cellInv ER (ringRd m ρ) (K (c, some (1, kk))) (sendCell c kk) ∗ cellInv ER (ringRd m ρ) (K (pl c kk, some (2, kk))) (recvCell (pl c kk) kk)
        ∗ ((rowM kk).view.loc (c : Thread nD τ) ↦[(rowM kk).view.set]{fullShare} sbC m ρ c) ∗ ((slotM kk).view.loc (pl c kk : Thread nD τ) ↦[(slotM kk).view.set]{fullShare} fd) ∗ owes (c : Thread nD τ) (Oready c [] + Orecv c (kk :: sn)) W
        ∗ dutyTok ER (sendCell c kk) 0 () ∗ reached ER (sendCell c kk) 0 ∗ dutyTok ER (recvCell (pl c kk) kk) 0 () ∗ reached ER (recvCell (pl c kk) kk) 0)
      ⊢ iprop(((cred (tallyAt (sendCell c kk) () N) ∗ owes (c : Thread nD τ) (Oready c [] + Orecv c sn) W) -∗ WP c (k ⟨⟩) Q)
          -∗ WP c (.op (.enqueueDma (rowM kk) (.remote (Dev.tc (pl c kk) : Thread nD τ) (slotM kk) (.dma (sendSem kk)) hsc) (.dma (recvSem kk)) hsrc hdst hsem) k) Q) := by
  exact Rounds.wp_send_pointsTo (Q := Q) (k := k) (defs := defs₀ (F := F)) 𝒱₀ ER (ringRd m ρ) (c : Thread nD τ) none (c' := (pl c kk : Thread nD τ)) (src := rowM kk) (dst := slotM kk) (hsc := hsc)
      (sS := .dma (sendSem kk)) (sem := .dma (recvSem kk)) (hsrc := hsrc) (hdst := hdst) (hsem := hsem) (q := fullShare)
      (κ₁ := K (c, some (1, kk))) (κ₂ := K (pl c kk, some (2, kk)))
      (r₁ := 0) (r₂ := 0) (d₁ := ()) (d₂ := ()) (fs := sbC m ρ c) (fd := fd) (hd1 m ρ c kk hk) (hd2 m ρ (pl c kk) kk hk)
      () () N (hamt kk) rfl rfl (O₀ := Oready c [] + Orecv c (kk :: sn)) (Oready c [] + Orecv c sn) (hO c kk sn) (W := W) (hpay1 m ρ c kk) (hpay2 m ρ c kk fd) (Es := Set.univ)

/-- The transfer of row block `kk` to slot `kk` of the device `kk` places on. -/
theorem step_send {Q : α → sProp 𝕄} {k : PUnit → Prog (TpuEff nD τ sig (Elt F) Λ₀ .tc) α} (kk : Fin 16) (hk : kk ≠ 0) {dv : Dev nD}
    {sS sR : DmaSem sig} {src dst : Memref sig .tc .vmem S32x512 .bf16}
    {hsc : dst.view.ref.isScScratch = false} {hsrc : src.view.WordExact} {hdst : dst.view.WordExact}
    {hsem : DmaTarget.Typed .vmem (.dma sR) (.remote (Dev.tc dv : Thread nD τ) dst (.dma sS) hsc)}
    (hd : dv = pl c kk) (hsS : sS = sendSem kk) (hsR : sR = recvSem kk) (hsr : src = rowM kk) (hds : dst = slotM kk)
    (h : St m ρ K c [] w pd sn (sc ++ [kk]) rv z bar gt sl rw ch Pc Pe Px Po ⊢ WP c (k ⟨⟩) Q) :
    St m ρ K c [] w (kk :: pd) (kk :: sn) sc rv z bar gt sl (kk :: rw) ch Pc Pe Px Po
      ⊢ WP c (.op (.enqueueDma src (.remote (Dev.tc dv : Thread nD τ) dst (.dma sS) hsc) (.dma sR) hsrc hdst hsem) k) Q := by
  subst hd hsS hsR hsr hds
  unfold St Gh Me
  rw [lsep_cons (readyPay c), lsep_cons (snI c), lsep_cons (rwI m ρ c)]
  unfold readyPay rwI rowPts slotPts
  iintro ⟨⟨#HR, #HL, ⟨%W, Ho⟩, Hsg, Hw, ⟨⟨%fd, Hd⟩, Hpd⟩, ⟨⟨Hat, Ht1, Ht2⟩, Hsn⟩, Hsc, Hrv, Hz, Hb⟩, ⟨HM1, HM2, ⟨Hr, HM3⟩, HM⟩⟩
  ihave #Hg := (rec_get m ρ K (c, some (1, kk))) $$ HR
  icases Hg with ⟨#Hg1, #Hg2⟩
  ihave #Hg' := (rec_get m ρ K (pl c kk, some (2, kk))) $$ HR
  icases Hg' with ⟨#Hg3, #Hg4⟩
  iapply (send_core m ρ kk hk fd W) $$ [Hr Hd Ho Ht1 Ht2]
  · isplitr; · iexact Hg1
    isplitr; · iexact Hg3
    isplitl [Hr]; · iexact Hr
    isplitl [Hd]; · iexact Hd
    isplitl [Ho]; · iexact Ho
    isplitl [Ht1]; · iexact Ht1
    isplitr; · iexact Hg2
    isplitl [Ht2]; · iexact Ht2
    iexact Hg4
  iintro ⟨Hc, Ho⟩
  ihave Hsc' := (lsep_snoc (scI c) kk sc) $$ [Hsc Hat Hc]
  · isplitl [Hsc]; · iexact Hsc
    isplitl [Hat]; · iexact Hat
    iexact Hc
  iapply h
  unfold St Gh Me readyPay rwI rowPts slotPts
  iframe HM HM1 HM2 HM3 Hsc'
  iframe
  iframe HR HL
  iexists W
  iexact Ho

end Cert.Moe

end
-- ==== Proof.Mem.lean ====
/-
# Loads and stores
-/
module

public import proofs.«01_k».proof.Proof.Send

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc Pc' : (cc0_scratch0 : Ref sig .tc).ty.Contents (Elt F) → Prop} {Pe Pe' : (cc0_scratch2 : Ref sig .tc).ty.Contents (Elt F) → Prop}
    {Px Px' : (cc0_scratch1 : Ref sig .tc).ty.Contents (Elt F) → Prop} {Po Po' : (cc0_stg5_0 : Ref sig .tc).ty.Contents (Elt F) → Prop}
variable {α : Type}

/-! ## Loads and stores of a whole buffer, from any state that holds it -/

theorem load_via {S : sProp 𝕄} {b : Ref sig .tc} {cs : CoreSpace} {s : Shape} {e : EltTy} {M : Memref sig .tc cs s e} (hM : M.view.loc (c : Thread nD τ) = (c : Thread nD τ).loc b)
    {P : Buf (Elt F) (M.view.loc (c : Thread nD τ)) → Prop}
    (hf : S ⊢ iprop((∃ f : Buf (Elt F) (M.view.loc (c : Thread nD τ)), ⌜P f⌝ ∗ (M.view.loc (c : Thread nD τ) ↦{fullShare} f))
      ∗ ((∃ f : Buf (Elt F) (M.view.loc (c : Thread nD τ)), ⌜P f⌝ ∗ (M.view.loc (c : Thread nD τ) ↦{fullShare} f)) -∗ S)))
    {r : LoadRect s} {hl : M.view.LoadsAt r} {Q : α → sProp 𝕄} {k : (r.shape.Idx → Elt F e) → Prog (TpuEff nD τ sig (Elt F) Λ₀ .tc) α}
    (h : ∀ f, P f → S ⊢ WP c (k (M.view.readAt (Elt F) r f)) Q) : S ⊢ WP c (.op (.load M r hl) k) Q := by
  refine hf.trans ?_
  iintro ⟨⟨%f, %hP, Hf⟩, Hk⟩
  iapply (wp_load 𝒱₀ (c : Thread nD τ) none Set.univ (m := M) (Finset.subset_univ _)) $$ Hf
  iintro Hf
  iapply (h f hP)
  iapply Hk
  iexists f
  isplitr; · ipureintro; exact hP
  iexact Hf

theorem store_via {S S' : sProp 𝕄} {cs : CoreSpace} {s : Shape} {e : EltTy} {M : Memref sig .tc cs s e} {r : Rect s}
    {P P' : Buf (Elt F) (M.view.loc (c : Thread nD τ)) → Prop}
    (hf : S ⊢ iprop((∃ f : Buf (Elt F) (M.view.loc (c : Thread nD τ)), ⌜P f⌝ ∗ (M.view.loc (c : Thread nD τ) ↦{fullShare} f))
      ∗ ((∃ f : Buf (Elt F) (M.view.loc (c : Thread nD τ)), ⌜P' f⌝ ∗ (M.view.loc (c : Thread nD τ) ↦{fullShare} f)) -∗ S')))
    {wv : r.shape.Idx → Elt F e} {hx : (M.access r).Stores Finset.univ} {hm : (Finset.univ : Finset r.shape.Idx) = Finset.univ ∨ ∀ a, r.stride a = 1}
    {Q : α → sProp 𝕄} {k : PUnit → Prog (TpuEff nD τ sig (Elt F) Λ₀ .tc) α}
    (hP : ∀ f : Buf (Elt F) (M.view.loc (c : Thread nD τ)), P f → P' ((M.access r).write (Elt F) f wv Finset.univ))
    (h : S' ⊢ WP c (k ⟨⟩) Q) : S ⊢ WP c (.op (.store M r wv Finset.univ hx hm) k) Q := by
  refine hf.trans ?_
  iintro ⟨⟨%f, %hPf, Hf⟩, Hk⟩
  iapply (wp_store 𝒱₀ (c : Thread nD τ) none Set.univ (m := M) (r := r) (Finset.subset_univ _)) $$ Hf
  iintro Hf
  iapply h
  iapply Hk
  iexists _
  isplitr; · ipureintro; exact hP f hPf
  iexact Hf

/-! ## The state's buffers -/

theorem St_x : St m ρ K c sg w pd sn sc rv z bar gt sl rw ch Pc Pe Px Po
    ⊢ iprop(bufI c cc0_stg0_0 (· = xC m ρ c) ∗ (bufI c cc0_stg0_0 (· = xC m ρ c) -∗ St m ρ K c sg w pd sn sc rv z bar gt sl rw ch Pc Pe Px Po)) := by
  unfold St Me
  iintro ⟨HG, H1, H2, H3, H4, Hb, H5⟩
  isplitl [Hb]; · iexact Hb
  iintro Hb
  iframe
theorem St_rw : St m ρ K c sg w pd sn sc rv z bar gt sl rw ch Pc Pe Px Po
    ⊢ iprop(bufI c cc0_stg1_0 (· = rwC m ρ c) ∗ (bufI c cc0_stg1_0 (· = rwC m ρ c) -∗ St m ρ K c sg w pd sn sc rv z bar gt sl rw ch Pc Pe Px Po)) := by
  unfold St Me
  iintro ⟨HG, H1, H2, H3, H4, H5, Hb, H6⟩
  isplitl [Hb]; · iexact Hb
  iintro Hb
  iframe
theorem St_rt : St m ρ K c sg w pd sn sc rv z bar gt sl rw ch Pc Pe Px Po
    ⊢ iprop(bufI c cc0_stg2_0 (· = rtC m ρ c) ∗ (bufI c cc0_stg2_0 (· = rtC m ρ c) -∗ St m ρ K c sg w pd sn sc rv z bar gt sl rw ch Pc Pe Px Po)) := by
  unfold St Me
  iintro ⟨HG, H1, H2, H3, H4, H5, H6, Hb, H7⟩
  isplitl [Hb]; · iexact Hb
  iintro Hb
  iframe
theorem St_ew : St m ρ K c sg w pd sn sc rv z bar gt sl rw ch Pc Pe Px Po
    ⊢ iprop(bufI c cc0_stg3_0 (· = ewC m ρ c) ∗ (bufI c cc0_stg3_0 (· = ewC m ρ c) -∗ St m ρ K c sg w pd sn sc rv z bar gt sl rw ch Pc Pe Px Po)) := by
  unfold St Me
  iintro ⟨HG, H1, H2, H3, H4, H5, H6, H7, Hb, H8⟩
  isplitl [Hb]; · iexact Hb
  iintro Hb
  iframe
theorem St_sw : St m ρ K c sg w pd sn sc rv z bar gt sl rw ch Pc Pe Px Po
    ⊢ iprop(bufI c cc0_stg4_0 (· = swC m ρ c) ∗ (bufI c cc0_stg4_0 (· = swC m ρ c) -∗ St m ρ K c sg w pd sn sc rv z bar gt sl rw ch Pc Pe Px Po)) := by
  unfold St Me
  iintro ⟨HG, H1, H2, H3, H4, H5, H6, H7, H8, Hb, H9⟩
  isplitl [Hb]; · iexact Hb
  iintro Hb
  iframe
theorem St_cf (Pc' : (cc0_scratch0 : Ref sig .tc).ty.Contents (Elt F) → Prop) : St m ρ K c sg w pd sn sc rv z bar gt sl rw ch Pc Pe Px Po
    ⊢ iprop(bufI c cc0_scratch0 Pc ∗ (bufI c cc0_scratch0 Pc' -∗ St m ρ K c sg w pd sn sc rv z bar gt sl rw ch Pc' Pe Px Po)) := by
  unfold St Me
  iintro ⟨HG, H1, H2, H3, H4, H5, H6, H7, H8, H9, Hb, H10⟩
  isplitl [Hb]; · iexact Hb
  iintro Hb
  iframe
theorem St_eb (Pe' : (cc0_scratch2 : Ref sig .tc).ty.Contents (Elt F) → Prop) : St m ρ K c sg w pd sn sc rv z bar gt sl rw ch Pc Pe Px Po
    ⊢ iprop(bufI c cc0_scratch2 Pe ∗ (bufI c cc0_scratch2 Pe' -∗ St m ρ K c sg w pd sn sc rv z bar gt sl rw ch Pc Pe' Px Po)) := by
  unfold St Me
  iintro ⟨HG, H1, H2, H3, H4, H5, H6, H7, H8, H9, H10, Hb, H11⟩
  isplitl [Hb]; · iexact Hb
  iintro Hb
  iframe
theorem St_xw (Px' : (cc0_scratch1 : Ref sig .tc).ty.Contents (Elt F) → Prop) : St m ρ K c sg w pd sn sc rv z bar gt sl rw ch Pc Pe Px Po
    ⊢ iprop(bufI c cc0_scratch1 Px ∗ (bufI c cc0_scratch1 Px' -∗ St m ρ K c sg w pd sn sc rv z bar gt sl rw ch Pc Pe Px' Po)) := by
  unfold St Me
  iintro ⟨HG, H1, H2, H3, H4, H5, H6, H7, H8, H9, H10, H11, Hb, H12⟩
  isplitl [Hb]; · iexact Hb
  iintro Hb
  iframe
theorem St_out (Po' : (cc0_stg5_0 : Ref sig .tc).ty.Contents (Elt F) → Prop) : St m ρ K c sg w pd sn sc rv z bar gt sl rw ch Pc Pe Px Po
    ⊢ iprop(bufI c cc0_stg5_0 Po ∗ (bufI c cc0_stg5_0 Po' -∗ St m ρ K c sg w pd sn sc rv z bar gt sl rw ch Pc Pe Px Po')) := by
  unfold St Me
  iintro ⟨HG, H1, H2, H3, H4, H5, H6, H7, H8, H9, H10, H11, H12, Hb⟩
  isplitl [Hb]; · iexact Hb
  iintro Hb
  iframe

/-! ## Their loads and stores -/

section
variable {Q : α → sProp 𝕄}
theorem load_x {r : LoadRect S512x256} {hl : xM.view.LoadsAt r} {Q : α → sProp 𝕄} {k : (r.shape.Idx → Elt F .f32) → Prog (TpuEff nD τ sig (Elt F) Λ₀ .tc) α}
    (h : St m ρ K c sg w pd sn sc rv z bar gt sl rw ch Pc Pe Px Po ⊢ WP c (k (xM.view.readAt (Elt F) r (xC m ρ c))) Q) :
    St m ρ K c sg w pd sn sc rv z bar gt sl rw ch Pc Pe Px Po ⊢ WP c (.op (.load xM r hl) k) Q :=
  load_via (b := cc0_stg0_0) (M := xM) rfl (St_x m ρ) fun f hf => by cases hf; exact h
theorem load_rw {r : LoadRect S256x64} {hl : rwM.view.LoadsAt r} {Q : α → sProp 𝕄} {k : (r.shape.Idx → Elt F .f32) → Prog (TpuEff nD τ sig (Elt F) Λ₀ .tc) α}
    (h : St m ρ K c sg w pd sn sc rv z bar gt sl rw ch Pc Pe Px Po ⊢ WP c (k (rwM.view.readAt (Elt F) r (rwC m ρ c))) Q) :
    St m ρ K c sg w pd sn sc rv z bar gt sl rw ch Pc Pe Px Po ⊢ WP c (.op (.load rwM r hl) k) Q :=
  load_via (b := cc0_stg1_0) (M := rwM) rfl (St_rw m ρ) fun f hf => by cases hf; exact h
theorem load_rt {r : LoadRect S512x1} {hl : rtM.view.LoadsAt r} {Q : α → sProp 𝕄} {k : (r.shape.Idx → Elt F .i32) → Prog (TpuEff nD τ sig (Elt F) Λ₀ .tc) α}
    (h : St m ρ K c sg w pd sn sc rv z bar gt sl rw ch Pc Pe Px Po ⊢ WP c (k (rtM.view.readAt (Elt F) r (rtC m ρ c))) Q) :
    St m ρ K c sg w pd sn sc rv z bar gt sl rw ch Pc Pe Px Po ⊢ WP c (.op (.load rtM r hl) k) Q :=
  load_via (b := cc0_stg2_0) (M := rtM) rfl (St_rt m ρ) fun f hf => by cases hf; exact h
theorem load_ew {r : LoadRect S4x256x512} {hl : ewM.view.LoadsAt r} {Q : α → sProp 𝕄} {k : (r.shape.Idx → Elt F .f32) → Prog (TpuEff nD τ sig (Elt F) Λ₀ .tc) α}
    (h : St m ρ K c sg w pd sn sc rv z bar gt sl rw ch Pc Pe Px Po ⊢ WP c (k (ewM.view.readAt (Elt F) r (ewC m ρ c))) Q) :
    St m ρ K c sg w pd sn sc rv z bar gt sl rw ch Pc Pe Px Po ⊢ WP c (.op (.load ewM r hl) k) Q :=
  load_via (b := cc0_stg3_0) (M := ewM) rfl (St_ew m ρ) fun f hf => by cases hf; exact h
theorem load_sw {r : LoadRect S256x512} {hl : swM.view.LoadsAt r} {Q : α → sProp 𝕄} {k : (r.shape.Idx → Elt F .f32) → Prog (TpuEff nD τ sig (Elt F) Λ₀ .tc) α}
    (h : St m ρ K c sg w pd sn sc rv z bar gt sl rw ch Pc Pe Px Po ⊢ WP c (k (swM.view.readAt (Elt F) r (swC m ρ c))) Q) :
    St m ρ K c sg w pd sn sc rv z bar gt sl rw ch Pc Pe Px Po ⊢ WP c (.op (.load swM r hl) k) Q :=
  load_via (b := cc0_stg4_0) (M := swM) rfl (St_sw m ρ) fun f hf => by cases hf; exact h

theorem load_cf {r : LoadRect S512x4} {hl : cfM.view.LoadsAt r} {Q : α → sProp 𝕄} {k : (r.shape.Idx → Elt F .f32) → Prog (TpuEff nD τ sig (Elt F) Λ₀ .tc) α}
    (h : ∀ f, Pc f → St m ρ K c sg w pd sn sc rv z bar gt sl rw ch Pc Pe Px Po ⊢ WP c (k (cfM.view.readAt (Elt F) r f)) Q) :
    St m ρ K c sg w pd sn sc rv z bar gt sl rw ch Pc Pe Px Po ⊢ WP c (.op (.load cfM r hl) k) Q :=
  load_via (b := cc0_scratch0) (M := cfM) rfl (St_cf m ρ Pc) h
theorem load_eb {r : LoadRect S4x256x512} {hl : ebM.view.LoadsAt r} {Q : α → sProp 𝕄} {k : (r.shape.Idx → Elt F .bf16) → Prog (TpuEff nD τ sig (Elt F) Λ₀ .tc) α}
    (h : ∀ f, Pe f → St m ρ K c sg w pd sn sc rv z bar gt sl rw ch Pc Pe Px Po ⊢ WP c (k (ebM.view.readAt (Elt F) r f)) Q) :
    St m ρ K c sg w pd sn sc rv z bar gt sl rw ch Pc Pe Px Po ⊢ WP c (.op (.load ebM r hl) k) Q :=
  load_via (b := cc0_scratch2) (M := ebM) rfl (St_eb m ρ Pe) h
theorem load_xw {r : LoadRect S512x1024} {hl : xwM.view.LoadsAt r} {Q : α → sProp 𝕄} {k : (r.shape.Idx → Elt F .bf16) → Prog (TpuEff nD τ sig (Elt F) Λ₀ .tc) α}
    (h : ∀ f, Px f → St m ρ K c sg w pd sn sc rv z bar gt sl rw ch Pc Pe Px Po ⊢ WP c (k (xwM.view.readAt (Elt F) r f)) Q) :
    St m ρ K c sg w pd sn sc rv z bar gt sl rw ch Pc Pe Px Po ⊢ WP c (.op (.load xwM r hl) k) Q :=
  load_via (b := cc0_scratch1) (M := xwM) rfl (St_xw m ρ Px) h
theorem load_out {r : LoadRect S32x512} {hl : oM.view.LoadsAt r} {Q : α → sProp 𝕄} {k : (r.shape.Idx → Elt F .f32) → Prog (TpuEff nD τ sig (Elt F) Λ₀ .tc) α}
    (h : ∀ f, Po f → St m ρ K c sg w pd sn sc rv z bar gt sl rw ch Pc Pe Px Po ⊢ WP c (k (oM.view.readAt (Elt F) r f)) Q) :
    St m ρ K c sg w pd sn sc rv z bar gt sl rw ch Pc Pe Px Po ⊢ WP c (.op (.load oM r hl) k) Q :=
  load_via (b := cc0_stg5_0) (M := oM) rfl (St_out m ρ Po) h

theorem store_cf (Pc' : (cc0_scratch0 : Ref sig .tc).ty.Contents (Elt F) → Prop) {r : Rect S512x4} {wv : r.shape.Idx → Elt F .f32} {hx hm} {Q : α → sProp 𝕄}
    {k : PUnit → Prog (TpuEff nD τ sig (Elt F) Λ₀ .tc) α} (hP : ∀ f, Pc f → Pc' ((cfM.access r).write (Elt F) f wv Finset.univ))
    (h : St m ρ K c sg w pd sn sc rv z bar gt sl rw ch Pc' Pe Px Po ⊢ WP c (k ⟨⟩) Q) :
    St m ρ K c sg w pd sn sc rv z bar gt sl rw ch Pc Pe Px Po ⊢ WP c (.op (.store cfM r wv Finset.univ hx hm) k) Q :=
  store_via (M := cfM) (P := Pc) (P' := Pc') (St_cf m ρ Pc') hP h
theorem store_eb (Pe' : (cc0_scratch2 : Ref sig .tc).ty.Contents (Elt F) → Prop) {r : Rect S4x256x512} {wv : r.shape.Idx → Elt F .bf16} {hx hm} {Q : α → sProp 𝕄}
    {k : PUnit → Prog (TpuEff nD τ sig (Elt F) Λ₀ .tc) α} (hP : ∀ f, Pe f → Pe' ((ebM.access r).write (Elt F) f wv Finset.univ))
    (h : St m ρ K c sg w pd sn sc rv z bar gt sl rw ch Pc Pe' Px Po ⊢ WP c (k ⟨⟩) Q) :
    St m ρ K c sg w pd sn sc rv z bar gt sl rw ch Pc Pe Px Po ⊢ WP c (.op (.store ebM r wv Finset.univ hx hm) k) Q :=
  store_via (M := ebM) (P := Pe) (P' := Pe') (St_eb m ρ Pe') hP h
theorem store_xw (Px' : (cc0_scratch1 : Ref sig .tc).ty.Contents (Elt F) → Prop) {r : Rect S512x1024} {wv : r.shape.Idx → Elt F .bf16} {hx hm} {Q : α → sProp 𝕄}
    {k : PUnit → Prog (TpuEff nD τ sig (Elt F) Λ₀ .tc) α} (hP : ∀ f, Px f → Px' ((xwM.access r).write (Elt F) f wv Finset.univ))
    (h : St m ρ K c sg w pd sn sc rv z bar gt sl rw ch Pc Pe Px' Po ⊢ WP c (k ⟨⟩) Q) :
    St m ρ K c sg w pd sn sc rv z bar gt sl rw ch Pc Pe Px Po ⊢ WP c (.op (.store xwM r wv Finset.univ hx hm) k) Q :=
  store_via (M := xwM) (P := Px) (P' := Px') (St_xw m ρ Px') hP h
theorem store_out (Po' : (cc0_stg5_0 : Ref sig .tc).ty.Contents (Elt F) → Prop) {r : Rect S32x512} {wv : r.shape.Idx → Elt F .f32} {hx hm} {Q : α → sProp 𝕄}
    {k : PUnit → Prog (TpuEff nD τ sig (Elt F) Λ₀ .tc) α} (hP : ∀ f, Po f → Po' ((oM.access r).write (Elt F) f wv Finset.univ))
    (h : St m ρ K c sg w pd sn sc rv z bar gt sl rw ch Pc Pe Px Po' ⊢ WP c (k ⟨⟩) Q) :
    St m ρ K c sg w pd sn sc rv z bar gt sl rw ch Pc Pe Px Po ⊢ WP c (.op (.store oM r wv Finset.univ hx hm) k) Q :=
  store_via (M := oM) (P := Po) (P' := Po') (St_out m ρ Po') hP h
end

/-! ## The send and gather buffers -/

/-- A load of a chunk not yet computed: of no account. -/
theorem load_chunk (q : Fin 4) {r : Rect S512x512} {hl : sbM.view.LoadsAt r.toLoadRect} {Q : α → sProp 𝕄} {k : (r.shape.Idx → Elt F .bf16) → Prog (TpuEff nD τ sig (Elt F) Λ₀ .tc) α}
    (hr : r = chunkR q) (h : ∀ v, St m ρ K c sg w pd sn sc rv z bar gt sl rw (q :: ch) Pc Pe Px Po ⊢ WP c (k v) Q) :
    St m ρ K c sg w pd sn sc rv z bar gt sl rw (q :: ch) Pc Pe Px Po ⊢ WP c (.op (.load sbM r.toLoadRect hl) k) Q := by
  subst hr
  unfold St Me at h ⊢
  rw [lsep_cons (chI c)] at h ⊢
  unfold chI chunkPts at h ⊢
  iintro ⟨HG, H1, H2, H3, ⟨⟨%f, Hf⟩, H4⟩, H5⟩
  iapply (wp_load 𝒱₀ (c : Thread nD τ) none Set.univ (m := sbM) (r := (chunkR q).toLoadRect) (S := chunkSet c q) (Finset.map_refl (s := (chunkR q).set)).subset) $$ Hf
  iintro Hf
  iapply (h _)
  iframe HG H1 H2 H3 H4 H5
  iexists f
  iexact Hf

/-- The store of a computed chunk: its four row blocks are ready to send. -/
theorem store_chunk (q : Fin 4) {r : Rect S512x512} {wv : r.shape.Idx → Elt F .bf16} {hx hm} {Q : α → sProp 𝕄} {k : PUnit → Prog (TpuEff nD τ sig (Elt F) Λ₀ .tc) α}
    (hr : r = chunkR q) (hw : HEq wv (sbBlk m ρ c q))
    (h : St m ρ K c sg w pd sn sc rv z bar gt sl (rowsOf q ++ rw) ch Pc Pe Px Po ⊢ WP c (k ⟨⟩) Q) :
    St m ρ K c sg w pd sn sc rv z bar gt sl rw (q :: ch) Pc Pe Px Po ⊢ WP c (.op (.store sbM r wv Finset.univ hx hm) k) Q := by
  subst hr
  have hw := eq_of_heq hw
  unfold St Me at h ⊢
  rw [lsep_cons (chI c)]
  unfold chI chunkPts
  iintro ⟨HG, H1, H2, H3, ⟨⟨%f, Hf⟩, H4⟩, H5⟩
  iapply (wp_store 𝒱₀ (c : Thread nD τ) none Set.univ (m := sbM) (r := chunkR q) (S := chunkSet c q)
    (by rw [View.setOn_univ]; exact (View.set_slice_whole cc0_scratch3 (chunkR q)).subset)) $$ Hf
  iintro Hf
  ihave Hf := (Entails.of_eq (pointsTo_congr (ℓ := sbLoc c) (I := chunkSet c q) (fun i hi => chunk_store m ρ c q f wv hw i hi))) $$ Hf
  ihave Hf := (chunk_rows c q (sbC m ρ c)).1 $$ Hf
  ihave Hr := (lsep_app (rwI m ρ c) (rowsOf q) rw) $$ [Hf H3]
  · isplitl [Hf]; · iexact Hf
    iexact H3
  iapply h
  iframe HG H1 H2 H4 H5
  iexact Hr

/-- The load of the device's own row block. -/
theorem load_own {hl : sbM.view.LoadsAt rowR0.toLoadRect} {Q : α → sProp 𝕄} {k : (rowR0.toLoadRect.shape.Idx → Elt F .bf16) → Prog (TpuEff nD τ sig (Elt F) Λ₀ .tc) α}
    (h : St m ρ K c sg w pd sn sc rv z bar gt sl (0 :: rw) ch Pc Pe Px Po ⊢ WP c (k (sbM.view.readAt (Elt F) rowR0.toLoadRect (sbC m ρ c))) Q) :
    St m ρ K c sg w pd sn sc rv z bar gt sl (0 :: rw) ch Pc Pe Px Po ⊢ WP c (.op (.load sbM rowR0.toLoadRect hl) k) Q := by
  unfold St Me at h ⊢
  rw [lsep_cons (rwI m ρ c)] at h ⊢
  unfold rwI rowPts at h ⊢
  iintro ⟨HG, H1, H2, ⟨Hf, H3⟩, H5⟩
  iapply (wp_load 𝒱₀ (c : Thread nD τ) none Set.univ (m := sbM) (r := rowR0.toLoadRect) (S := rowSet c 0)
    (by show Finset.map _ rowR0.set ⊆ (rowM 0).view.set; rw [row_set]; exact (Finset.map_refl (s := rowR0.set)).subset)) $$ Hf
  iintro Hf
  iapply h
  iframe HG H1 H2 H3 H5
  iexact Hf

/-- A load of slot 0 before it is filled: of no account. -/
theorem load_slot {hl : gaM.view.LoadsAt slotR0.toLoadRect} {Q : α → sProp 𝕄} {k : (slotR0.toLoadRect.shape.Idx → Elt F .bf16) → Prog (TpuEff nD τ sig (Elt F) Λ₀ .tc) α}
    (h : ∀ v, St m ρ K c sg w pd sn sc rv z bar gt (0 :: sl) rw ch Pc Pe Px Po ⊢ WP c (k v) Q) :
    St m ρ K c sg w pd sn sc rv z bar gt (0 :: sl) rw ch Pc Pe Px Po ⊢ WP c (.op (.load gaM slotR0.toLoadRect hl) k) Q := by
  unfold St Me at h ⊢
  rw [lsep_cons (slI c)] at h ⊢
  unfold slI slotPts at h ⊢
  iintro ⟨HG, H1, ⟨⟨%f, Hf⟩, H2⟩, H5⟩
  iapply (wp_load 𝒱₀ (c : Thread nD τ) none Set.univ (m := gaM) (r := slotR0.toLoadRect) (S := slotSet c 0)
    (by show Finset.map _ slotR0.set ⊆ (slotM 0).view.set; rw [slot_set]; exact (Finset.map_refl (s := slotR0.set)).subset)) $$ Hf
  iintro Hf
  iapply (h _)
  iframe HG H1 H2 H5
  iexists f
  iexact Hf

/-- The store of the device's own row block in slot 0. -/
theorem store_slot {wv : slotR0.shape.Idx → Elt F .bf16} {hx hm} {Q : α → sProp 𝕄} {k : PUnit → Prog (TpuEff nD τ sig (Elt F) Λ₀ .tc) α}
    (hw : wv = k0_pay46 (sbM.view.readAt (Elt F) rowR0.toLoadRect (sbC m ρ c)))
    (h : St m ρ K c sg w pd sn sc rv z bar (0 :: gt) sl rw ch Pc Pe Px Po ⊢ WP c (k ⟨⟩) Q) :
    St m ρ K c sg w pd sn sc rv z bar gt (0 :: sl) rw ch Pc Pe Px Po ⊢ WP c (.op (.store gaM slotR0 wv Finset.univ hx hm) k) Q := by
  subst hw
  unfold St Me at h ⊢
  rw [lsep_cons (slI c)]
  rw [lsep_cons (gtI m ρ c)] at h
  unfold gtI slotPts at h
  unfold slI slotPts
  iintro ⟨HG, H1, ⟨⟨%f, Hf⟩, H2⟩, H5⟩
  iapply (wp_store 𝒱₀ (c : Thread nD τ) none Set.univ (m := gaM) (r := slotR0) (S := slotSet c 0)
    (by rw [View.setOn_univ]; show _ ⊆ (slotM 0).view.set; rw [slot_set]; exact (View.set_slice_whole cc0_scratch4 slotR0).subset)) $$ Hf
  iintro Hf
  ihave Hf := (Entails.of_eq (pointsTo_congr (ℓ := gaLoc c) (I := slotSet c 0) (fun i hi => own_slot m ρ c f i hi))) $$ Hf
  iapply h
  iframe HG H1 H2 H5
  iexact Hf

/-- The load of the whole gather buffer, once every slot is filled. -/
theorem load_gather (hn : gt.Nodup) (hc : ∀ k, k ∈ gt) {r : LoadRect S16x32x512} {hl : gaM.view.LoadsAt r} {Q : α → sProp 𝕄} {k : (r.shape.Idx → Elt F .bf16) → Prog (TpuEff nD τ sig (Elt F) Λ₀ .tc) α}
    (h : St m ρ K c sg w pd sn sc rv z bar gt sl rw ch Pc Pe Px Po ⊢ WP c (k (gaM.view.readAt (Elt F) r (gaC m ρ c))) Q) :
    St m ρ K c sg w pd sn sc rv z bar gt sl rw ch Pc Pe Px Po ⊢ WP c (.op (.load gaM r hl) k) Q := by
  unfold St Me at h ⊢
  iintro ⟨HG, H1, H5⟩
  ihave H1 := (show lsep (gtI m ρ c) gt ⊢ (gaLoc c ↦[Finset.univ]{fullShare} gaC m ρ c : sProp 𝕄) from (slots_whole c gt hn hc (gaC m ρ c)).2) $$ H1
  iapply (wp_load 𝒱₀ (c : Thread nD τ) none Set.univ (m := gaM) (Finset.subset_univ _)) $$ H1
  iintro H1
  ihave H1 := (show (gaLoc c ↦[Finset.univ]{fullShare} gaC m ρ c : sProp 𝕄) ⊢ lsep (gtI m ρ c) gt from (slots_whole c gt hn hc (gaC m ρ c)).1) $$ H1
  iapply h
  iframe HG H5
  iexact H1

end Cert.Moe

end
-- ==== Proof.BodyA.lean ====
/-
# Parts 1 to 7 of the body: the ready signals and the barrier
-/
module

public import proofs.«01_k».proof.Proof.Mem

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}

/-- A part of the body, at the kernel's buffers. -/
abbrev onBufs {β : Type 1} (p : (a0 : Memref sig .tc .vmem S512x256 .f32) → a0.IsWhole → (a1 : Memref sig .tc .vmem S256x64 .f32) → a1.IsWhole → (a2 : Memref sig .tc .vmem S512x1 .i32) → a2.IsWhole → (a3 : Memref sig .tc .vmem S4x256x512 .f32) → a3.IsWhole → (a4 : Memref sig .tc .vmem S256x512 .f32) → a4.IsWhole → (a5 : Memref sig .tc .vmem S32x512 .f32) → a5.IsWhole → (a6 : Memref sig .tc .vmem S512x4 .f32) → a6.IsWhole → (a7 : Memref sig .tc .vmem S512x1024 .bf16) → a7.IsWhole → (a8 : Memref sig .tc .vmem S4x256x512 .bf16) → a8.IsWhole → (a9 : Memref sig .tc .vmem S512x512 .bf16) → a9.IsWhole → (a10 : Memref sig .tc .vmem S16x32x512 .bf16) → a10.IsWhole → DmaSems sig S16 → DmaSems sig S16 → Sems sig S16 → β) : β :=
  p xM (Memref.isWhole_whole _) rwM (Memref.isWhole_whole _) rtM (Memref.isWhole_whole _) ewM (Memref.isWhole_whole _) swM (Memref.isWhole_whole _) oM (Memref.isWhole_whole _) cfM (Memref.isWhole_whole _) xwM (Memref.isWhole_whole _) ebM (Memref.isWhole_whole _) sbM (Memref.isWhole_whole _) gaM (Memref.isWhole_whole _) cc0_scratch5 cc0_scratch6 cc0_scratch7

theorem ret_intro {α : Type} {S : sProp 𝕄} {Q : α → sProp 𝕄} {r : α} (h : S ⊢ Q r) : S ⊢ WP c (.ret r) Q := by
  refine h.trans ?_
  unfold WP
  rw [wp_ret]
  iintro H
  imodintro
  iexact H

theorem part1 {Q : (Σ' (d0 : Dev nD), BitVec 32) → sProp 𝕄} (h : St m ρ K c sg w pd sn sc rv z bar gt sl rw ch Pc Pe Px Po ⊢ Q ⟨c, placeW c⟩) :
    St m ρ K c (1 :: 2 :: sg) w pd sn sc rv z bar gt sl rw ch Pc Pe Px Po ⊢ WP c (onBufs (k0_part1 (F := F))) Q := by
  rw [k0_part1_eq_skeleton]; unfold onBufs k0_part1_skel
  simp only [semSignalWord, semWaitWord, semSignalHereWord, Prog.lift, Prog.bind_op, Prog.bind_ret, Prog.pure_eq_ret, wp_deviceId]
  refine step_signal m ρ 1 (by decide) (devE (by decide +kernel)) rfl rfl ?_
  refine step_signal m ρ 2 (by decide) (devE (by decide +kernel)) rfl rfl ?_
  exact ret_intro h

theorem part2 {v2 : BitVec 32}  {Q : _ → sProp 𝕄} (h : ∀ r, St m ρ K c sg w pd sn sc rv z bar gt sl rw ch Pc Pe Px Po ⊢ Q r) :
    St m ρ K c (3 :: 4 :: sg) w pd sn sc rv z bar gt sl rw ch Pc Pe Px Po ⊢ WP c (onBufs (k0_part2 (F := F)) c v2 ) Q := by
  rw [k0_part2_eq_skeleton]; unfold onBufs k0_part2_skel
  simp only [semSignalWord, semWaitWord, semSignalHereWord, Prog.lift, Prog.bind_op, Prog.bind_ret, Prog.pure_eq_ret, wp_deviceId]
  refine step_signal m ρ 3 (by decide) (devE (by decide +kernel)) rfl rfl ?_
  refine step_signal m ρ 4 (by decide) (devE (by decide +kernel)) rfl rfl ?_
  exact ret_intro (h _)

theorem part3 {v2 : BitVec 32} {j0 : BitVec 32} {j1 : BitVec 32} {j2 : BitVec 1} {j3 : BitVec 32} {Q : _ → sProp 𝕄} (h : ∀ r, St m ρ K c sg w pd sn sc rv z bar gt sl rw ch Pc Pe Px Po ⊢ Q r) :
    St m ρ K c (5 :: 6 :: sg) w pd sn sc rv z bar gt sl rw ch Pc Pe Px Po ⊢ WP c (onBufs (k0_part3 (F := F)) c v2 j0 j1 j2 j3) Q := by
  rw [k0_part3_eq_skeleton]; unfold onBufs k0_part3_skel
  simp only [semSignalWord, semWaitWord, semSignalHereWord, Prog.lift, Prog.bind_op, Prog.bind_ret, Prog.pure_eq_ret, wp_deviceId]
  refine step_signal m ρ 5 (by decide) (devE (by decide +kernel)) rfl rfl ?_
  refine step_signal m ρ 6 (by decide) (devE (by decide +kernel)) rfl rfl ?_
  exact ret_intro (h _)

theorem part4 {v2 : BitVec 32} {j0 : BitVec 32} {j1 : BitVec 32} {j2 : BitVec 1} {j3 : BitVec 1} {Q : _ → sProp 𝕄} (h : ∀ r, St m ρ K c sg w pd sn sc rv z bar gt sl rw ch Pc Pe Px Po ⊢ Q r) :
    St m ρ K c (7 :: 8 :: sg) w pd sn sc rv z bar gt sl rw ch Pc Pe Px Po ⊢ WP c (onBufs (k0_part4 (F := F)) c v2 j0 j1 j2 j3) Q := by
  rw [k0_part4_eq_skeleton]; unfold onBufs k0_part4_skel
  simp only [semSignalWord, semWaitWord, semSignalHereWord, Prog.lift, Prog.bind_op, Prog.bind_ret, Prog.pure_eq_ret, wp_deviceId]
  refine step_signal m ρ 7 (by decide) (devE (by decide +kernel)) rfl rfl ?_
  refine step_signal m ρ 8 (by decide) (devE (by decide +kernel)) rfl rfl ?_
  exact ret_intro (h _)

theorem part5 {v2 : BitVec 32} {j0 : BitVec 32} {Q : _ → sProp 𝕄} (h : ∀ r, St m ρ K c sg w pd sn sc rv z bar gt sl rw ch Pc Pe Px Po ⊢ Q r) :
    St m ρ K c (9 :: 10 :: sg) w pd sn sc rv z bar gt sl rw ch Pc Pe Px Po ⊢ WP c (onBufs (k0_part5 (F := F)) c v2 j0) Q := by
  rw [k0_part5_eq_skeleton]; unfold onBufs k0_part5_skel
  simp only [semSignalWord, semWaitWord, semSignalHereWord, Prog.lift, Prog.bind_op, Prog.bind_ret, Prog.pure_eq_ret, wp_deviceId]
  refine step_signal m ρ 9 (by decide) (devE (by decide +kernel)) rfl rfl ?_
  refine step_signal m ρ 10 (by decide) (devE (by decide +kernel)) rfl rfl ?_
  exact ret_intro (h _)

theorem part6 {v2 : BitVec 32} {j0 : BitVec 32} {Q : _ → sProp 𝕄} (h : ∀ r, St m ρ K c sg w pd sn sc rv z bar gt sl rw ch Pc Pe Px Po ⊢ Q r) :
    St m ρ K c (11 :: 12 :: 13 :: sg) w pd sn sc rv z bar gt sl rw ch Pc Pe Px Po ⊢ WP c (onBufs (k0_part6 (F := F)) c v2 j0) Q := by
  rw [k0_part6_eq_skeleton]; unfold onBufs k0_part6_skel
  simp only [semSignalWord, semWaitWord, semSignalHereWord, Prog.lift, Prog.bind_op, Prog.bind_ret, Prog.pure_eq_ret, wp_deviceId]
  refine step_signal m ρ 11 (by decide) (devE (by decide +kernel)) rfl rfl ?_
  refine step_signal m ρ 12 (by decide) (devE (by decide +kernel)) rfl rfl ?_
  refine step_signal m ρ 13 (by decide) (devE (by decide +kernel)) rfl rfl ?_
  exact ret_intro (h _)

theorem part7 {v2 : BitVec 32} {j0 : BitVec 32} {j1 : BitVec 32} {Q : _ → sProp 𝕄} (h : ∀ r, St m ρ K c [] w pd sn sc rv z true gt sl rw ch Pc Pe Px Po ⊢ Q r) :
    St m ρ K c [14, 15] w pd sn sc rv z false gt sl rw ch Pc Pe Px Po ⊢ WP c (onBufs (k0_part7 (F := F)) c v2 j0 j1) Q := by
  rw [k0_part7_eq_skeleton]; unfold onBufs k0_part7_skel
  simp only [semSignalWord, semWaitWord, semSignalHereWord, Prog.lift, Prog.bind_op, Prog.bind_ret, Prog.pure_eq_ret, wp_deviceId]
  refine step_signal m ρ 14 (by decide) (devE (by decide +kernel)) rfl rfl ?_
  refine step_signal m ρ 15 (by decide) (devE (by decide +kernel)) rfl rfl ?_
  simp only [wp_deviceId]
  refine step_bar m ρ rfl rfl rfl rfl rfl ?_
  exact ret_intro (h _)

end Cert.Moe

end
-- ==== Proof.BodyB.lean ====
module

public import proofs.«01_k».proof.Proof.BodyA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}

/-! ## What the loads read -/

abbrev xAll (c : Dev nD) : Vec F S512x256 .f32 := xM.view.readAt (Elt F) (Rect.unit (s := S512x256) ![0, 0] S512x256.size inb_S512x256_S512x256_0_0).toLoadRect (xC m ρ c)
abbrev rwAll (c : Dev nD) : Vec F S256x64 .f32 := rwM.view.readAt (Elt F) (Rect.unit (s := S256x64) ![0, 0] S256x64.size inb_S256x64_S256x64_0_0).toLoadRect (rwC m ρ c)
abbrev rtAll (c : Dev nD) : Vec F S512x1 .i32 := rtM.view.readAt (Elt F) (Rect.unit (s := S512x1) ![0, 0] S512x1.size inb_S512x1_S512x1_0_0).toLoadRect (rtC m ρ c)
/-- The input rows of row block `j`. -/
abbrev xB (c : Dev nD) (j : Fin 16) : Vec F S32x256 .f32 :=
  xM.view.readAt (Elt F) (Rect.unit (s := S512x256) (k0_off1 c (BitVec.ofNat 32 j.val)) S32x256.size (k0_off1_inb c j)).toLoadRect (xC m ρ c)
/-- The weights of row block `j`. -/
abbrev cfB (c : Dev nD) (j : Fin 16) : Vec F S32x4 .f32 :=
  cfM.view.readAt (Elt F) (Rect.unit (s := S512x4) (k0_off2 c (BitVec.ofNat 32 j.val)) S32x4.size (k0_off2_inb c j)).toLoadRect (cfC m ρ c)
/-- The tile of the weighted rows at chunk `q`, local expert `e`. -/
abbrev xwT (c : Dev nD) (q e : Fin 4) : Vec F S128x256 .bf16 := xwM.view.readAt (Elt F) (xwtileR q e).toLoadRect (xwC m ρ c)
/-- Local expert `e`, narrowed. -/
abbrev ebT (c : Dev nD) (e : Fin 4) : Vec F S1x256x512 .bf16 := ebM.view.readAt (Elt F) (expertR e).toLoadRect (ebC m ρ c)

/-! ## Single operations, with what the buffers hold so far -/

section
variable {α : Type}
theorem load_coef {r : LoadRect S512x4} {hl : cfM.view.LoadsAt r} {Q : α → sProp 𝕄} {k : (r.shape.Idx → Elt F .f32) → Prog (TpuEff nD τ sig (Elt F) Λ₀ .tc) α}
    (h : St m ρ K c sg w pd sn sc rv z bar gt sl rw ch (· = cfC m ρ c) Pe Px Po ⊢ WP c (k (cfM.view.readAt (Elt F) r (cfC m ρ c))) Q) :
    St m ρ K c sg w pd sn sc rv z bar gt sl rw ch (· = cfC m ρ c) Pe Px Po ⊢ WP c (.op (.load cfM r hl) k) Q :=
  load_cf m ρ fun f hf => by cases hf; exact h
theorem load_expert {r : LoadRect S4x256x512} {hl : ebM.view.LoadsAt r} {Q : α → sProp 𝕄} {k : (r.shape.Idx → Elt F .bf16) → Prog (TpuEff nD τ sig (Elt F) Λ₀ .tc) α}
    (h : St m ρ K c sg w pd sn sc rv z bar gt sl rw ch Pc (· = ebC m ρ c) Px Po ⊢ WP c (k (ebM.view.readAt (Elt F) r (ebC m ρ c))) Q) :
    St m ρ K c sg w pd sn sc rv z bar gt sl rw ch Pc (· = ebC m ρ c) Px Po ⊢ WP c (.op (.load ebM r hl) k) Q :=
  load_eb m ρ fun f hf => by cases hf; exact h
theorem load_tile {r : LoadRect S512x1024} {hl : xwM.view.LoadsAt r} {Q : α → sProp 𝕄} {k : (r.shape.Idx → Elt F .bf16) → Prog (TpuEff nD τ sig (Elt F) Λ₀ .tc) α}
    (h : St m ρ K c sg w pd sn sc rv z bar gt sl rw ch Pc Pe (· = xwC m ρ c) Po ⊢ WP c (k (xwM.view.readAt (Elt F) r (xwC m ρ c))) Q) :
    St m ρ K c sg w pd sn sc rv z bar gt sl rw ch Pc Pe (· = xwC m ρ c) Po ⊢ WP c (.op (.load xwM r hl) k) Q :=
  load_xw m ρ fun f hf => by cases hf; exact h
theorem store_coef {r : Rect S512x4} {wv : r.shape.Idx → Elt F .f32} {hx hm} {Q : α → sProp 𝕄} {k : PUnit → Prog (TpuEff nD τ sig (Elt F) Λ₀ .tc) α}
    (hr : r = Rect.unit (s := S512x4) ![0, 0] S512x4.size inb_S512x4_S512x4_0_0) (hw : HEq wv (cfC m ρ c)) (h : St m ρ K c sg w pd sn sc rv z bar gt sl rw ch (· = cfC m ρ c) Pe Px Po ⊢ WP c (k ⟨⟩) Q) :
    St m ρ K c sg w pd sn sc rv z bar gt sl rw ch Pc Pe Px Po ⊢ WP c (.op (.store cfM r wv Finset.univ hx hm) k) Q := by
  subst hr
  have hw := eq_of_heq hw
  refine store_cf m ρ (· = cfC m ρ c) (fun f _ => ?_) h
  rw [hw]
  exact Memref.write_access_unit_zero_univ (Elt F) cc0_scratch0 (by funext a; fin_cases a <;> rfl) _ f (cfC m ρ c)
theorem store_expert (e : Fin 4) {wv : (expertR e).shape.Idx → Elt F .bf16} {hx hm} {Q : α → sProp 𝕄} {k : PUnit → Prog (TpuEff nD τ sig (Elt F) Λ₀ .tc) α}
    (hw : wv = ewBlk m ρ c e) (h : St m ρ K c sg w pd sn sc rv z bar gt sl rw ch Pc (EBp m ρ c (e.val + 1)) Px Po ⊢ WP c (k ⟨⟩) Q) :
    St m ρ K c sg w pd sn sc rv z bar gt sl rw ch Pc (EBp m ρ c e.val) Px Po ⊢ WP c (.op (.store ebM (expertR e) wv Finset.univ hx hm) k) Q :=
  store_eb m ρ (EBp m ρ c (e.val + 1)) (fun f hf => eb_store m ρ c e hf hw) h
theorem store_expert_last {wv : (expertR 3).shape.Idx → Elt F .bf16} {hx hm} {Q : α → sProp 𝕄} {k : PUnit → Prog (TpuEff nD τ sig (Elt F) Λ₀ .tc) α}
    (hw : wv = ewBlk m ρ c 3) (h : St m ρ K c sg w pd sn sc rv z bar gt sl rw ch Pc (· = ebC m ρ c) Px Po ⊢ WP c (k ⟨⟩) Q) :
    St m ρ K c sg w pd sn sc rv z bar gt sl rw ch Pc (EBp m ρ c 3) Px Po ⊢ WP c (.op (.store ebM (expertR 3) wv Finset.univ hx hm) k) Q :=
  store_eb m ρ (· = ebC m ρ c) (fun f hf => EBp_full m ρ c (eb_store m ρ c 3 hf hw)) h
theorem store_row (j : Fin 16) {wv : (xwrowR j).shape.Idx → Elt F .bf16} {hx hm} {Q : α → sProp 𝕄} {k : PUnit → Prog (TpuEff nD τ sig (Elt F) Λ₀ .tc) α}
    (hw : wv = xwBlk m ρ c j) (h : St m ρ K c sg w pd sn sc rv z bar gt sl rw ch Pc Pe (XWp m ρ c (j.val + 1)) Po ⊢ WP c (k ⟨⟩) Q) :
    St m ρ K c sg w pd sn sc rv z bar gt sl rw ch Pc Pe (XWp m ρ c j.val) Po ⊢ WP c (.op (.store xwM (xwrowR j) wv Finset.univ hx hm) k) Q :=
  store_xw m ρ (XWp m ρ c (j.val + 1)) (fun f hf => xw_store m ρ c j hf hw) h
theorem store_row_last {wv : (xwrowR 15).shape.Idx → Elt F .bf16} {hx hm} {Q : α → sProp 𝕄} {k : PUnit → Prog (TpuEff nD τ sig (Elt F) Λ₀ .tc) α}
    (hw : wv = xwBlk m ρ c 15) (h : St m ρ K c sg w pd sn sc rv z bar gt sl rw ch Pc Pe (· = xwC m ρ c) Po ⊢ WP c (k ⟨⟩) Q) :
    St m ρ K c sg w pd sn sc rv z bar gt sl rw ch Pc Pe (XWp m ρ c 15) Po ⊢ WP c (.op (.store xwM (xwrowR 15) wv Finset.univ hx hm) k) Q :=
  store_xw m ρ (· = xwC m ρ c) (fun f hf => XWp_full m ρ c (xw_store m ρ c 15 hf hw)) h
end

/-! ## The experts narrowed, the weights, the weighted rows -/

theorem part8  {Q : (FVec F S512x64 .f32) → sProp 𝕄}
    (h : St m ρ K c sg w pd sn sc rv z bar gt sl rw ch Pc (· = ebC m ρ c) Px Po ⊢ Q (k0_pay5 (xAll m ρ c) (rwAll m ρ c))) :
    St m ρ K c sg w pd sn sc rv z bar gt sl rw ch Pc (EBp m ρ c 0) Px Po ⊢ WP c (onBufs (k0_part8 (F := F)) ) Q := by
  rw [k0_part8_eq_skeleton]; unfold onBufs k0_part8_skel
  simp only [semSignalWord, semWaitWord, semSignalHereWord, Prog.lift, Prog.bind_op, Prog.bind_ret, Prog.pure_eq_ret, wp_deviceId]
  refine load_ew m ρ ?_
  refine load_eb m ρ fun _ _ => ?_
  refine store_expert m ρ 0 rfl ?_
  refine load_ew m ρ ?_
  refine load_eb m ρ fun _ _ => ?_
  refine store_expert m ρ 1 rfl ?_
  refine load_ew m ρ ?_
  refine load_eb m ρ fun _ _ => ?_
  refine store_expert m ρ 2 rfl ?_
  refine load_ew m ρ ?_
  refine load_eb m ρ fun _ _ => ?_
  refine store_expert_last m ρ rfl ?_
  refine load_x m ρ ?_
  refine load_rw m ρ ?_
  exact ret_intro h

theorem part9 {v2 : BitVec 32} {v257 : FVec F S512x64 .f32} {Q : (FVec F S512x4 .f32) → sProp 𝕄}
    (h : St m ρ K c sg w pd sn sc rv z bar gt sl rw ch Pc Pe Px Po ⊢ Q (k0_pay6 v2 v257 (rtAll m ρ c))) :
    St m ρ K c sg w pd sn sc rv z bar gt sl rw ch Pc Pe Px Po ⊢ WP c (onBufs (k0_part9 (F := F)) v2 v257) Q := by
  rw [k0_part9_eq_skeleton]; unfold onBufs k0_part9_skel
  simp only [semSignalWord, semWaitWord, semSignalHereWord, Prog.lift, Prog.bind_op, Prog.bind_ret, Prog.pure_eq_ret, wp_deviceId]
  refine load_rt m ρ ?_
  exact ret_intro h

theorem part10 {v2 : BitVec 32} {Q : (Σ' (v340 : BitVec 32), BitVec 32) → sProp 𝕄}
    (h : ∀ r, St m ρ K c sg w pd sn sc rv z bar gt sl rw ch (· = cfC m ρ c) Pe (XWp m ρ c 1) Po ⊢ Q r) :
    St m ρ K c sg w pd sn sc rv z bar gt sl rw ch Pc Pe (XWp m ρ c 0) Po ⊢ WP c (onBufs (k0_part10 (F := F)) c v2 (k0_pay6 (placeW c) (k0_pay5 (xAll m ρ c) (rwAll m ρ c)) (rtAll m ρ c))) Q := by
  rw [k0_part10_eq_skeleton]; unfold onBufs k0_part10_skel
  simp only [semSignalWord, semWaitWord, semSignalHereWord, Prog.lift, Prog.bind_op, Prog.bind_ret, Prog.pure_eq_ret, wp_deviceId]
  refine load_cf m ρ fun _ _ => ?_
  refine store_coef m ρ rfl HEq.rfl ?_
  refine load_x m ρ ?_
  refine load_coef m ρ ?_
  refine load_xw m ρ fun _ _ => ?_
  refine store_row m ρ 0 rfl ?_
  exact ret_intro (h _)

theorem part11 {v2 : BitVec 32} {v340 : BitVec 32} {c1_i32_210 : BitVec 32} {Q : (Σ' (v379 : BitVec 32) (v380 : BitVec 32), BitVec 1) → sProp 𝕄}
    (h : ∀ r, St m ρ K c sg w pd sn sc rv z bar gt sl rw ch (· = cfC m ρ c) Pe (XWp m ρ c 2) Po ⊢ Q r) :
    St m ρ K c sg w pd sn sc rv z bar gt sl rw ch (· = cfC m ρ c) Pe (XWp m ρ c 1) Po ⊢ WP c (onBufs (k0_part11 (F := F)) c v2 v340 c1_i32_210) Q := by
  rw [k0_part11_eq_skeleton]; unfold onBufs k0_part11_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 1 rfl ?_
  exact ret_intro (h _)

theorem part12 {v2 : BitVec 32} {v379 : BitVec 32} {v380 : BitVec 32} {v381 : BitVec 1} {Q : (Σ' (v423 : BitVec 32), BitVec 32) → sProp 𝕄}
    (h : ∀ r, St m ρ K c sg w pd sn sc rv z bar gt sl rw ch (· = cfC m ρ c) Pe (XWp m ρ c 3) Po ⊢ Q r) :
    St m ρ K c sg w pd sn sc rv z bar gt sl rw ch (· = cfC m ρ c) Pe (XWp m ρ c 2) Po ⊢ WP c (onBufs (k0_part12 (F := F)) c v2 v379 v380 v381) Q := by
  rw [k0_part12_eq_skeleton]; unfold onBufs k0_part12_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 2 rfl ?_
  exact ret_intro (h _)

theorem part13 {v2 : BitVec 32} {v423 : BitVec 32} {c32_i32_243 : BitVec 32} {Q : (FVec F S32x256 .f32) → sProp 𝕄}
    (h : St m ρ K c sg w pd sn sc rv z bar gt sl rw ch (· = cfC m ρ c) Pe (XWp m ρ c 4) Po ⊢ Q (k0_pay12 (xB m ρ c 4))) :
    St m ρ K c sg w pd sn sc rv z bar gt sl rw ch (· = cfC m ρ c) Pe (XWp m ρ c 3) Po ⊢ WP c (onBufs (k0_part13 (F := F)) c v2 v423 c32_i32_243) Q := by
  rw [k0_part13_eq_skeleton]; unfold onBufs k0_part13_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 3 rfl ?_
  refine load_x m ρ ?_
  exact ret_intro h

theorem part14 {v2 : BitVec 32} {Q : (Σ' (v499 : FVec F S32x256 .f32) (v502 : Vec F S32x4 .f32) (v505 : FVec F S32x256 .f32) (v508 : FVec F S32x256 .f32), FVec F S32x256 .f32) → sProp 𝕄}
    (h : St m ρ K c sg w pd sn sc rv z bar gt sl rw ch (· = cfC m ρ c) Pe (XWp m ρ c 5) Po ⊢ Q ⟨k0_pay14 (xB m ρ c 5), (cfB m ρ c 5), k0_pay15 (xB m ρ c 5) (cfB m ρ c 5), k0_pay16 (xB m ρ c 5) (cfB m ρ c 5), k0_pay17 (cfB m ρ c 5)⟩) :
    St m ρ K c sg w pd sn sc rv z bar gt sl rw ch (· = cfC m ρ c) Pe (XWp m ρ c 4) Po ⊢ WP c (onBufs (k0_part14 (F := F)) c v2 (k0_pay12 (xB m ρ c 4))) Q := by
  rw [k0_part14_eq_skeleton]; unfold onBufs k0_part14_skel
  simp only [semSignalWord, semWaitWord, semSignalHereWord, Prog.lift, Prog.bind_op, Prog.bind_ret, Prog.pure_eq_ret, wp_deviceId]
  refine load_coef m ρ ?_
  refine load_xw m ρ fun _ _ => ?_
  refine store_row m ρ 4 rfl ?_
  refine load_x m ρ ?_
  refine load_coef m ρ ?_
  exact ret_intro h

theorem part15 {v2 : BitVec 32} {Q : (Σ' (v552 : FVec F S32x1024 .bf16), Vec F S32x1024 .bf16) → sProp 𝕄}
    (h : ∀ v, St m ρ K c sg w pd sn sc rv z bar gt sl rw ch (· = cfC m ρ c) Pe (XWp m ρ c 6) Po ⊢ Q ⟨k0_pay19 (xB m ρ c 6) (cfB m ρ c 6), v⟩) :
    St m ρ K c sg w pd sn sc rv z bar gt sl rw ch (· = cfC m ρ c) Pe (XWp m ρ c 5) Po ⊢ WP c (onBufs (k0_part15 (F := F)) c v2 (k0_pay14 (xB m ρ c 5)) (cfB m ρ c 5) (k0_pay15 (xB m ρ c 5) (cfB m ρ c 5)) (k0_pay16 (xB m ρ c 5) (cfB m ρ c 5)) (k0_pay17 (cfB m ρ c 5))) Q := by
  rw [k0_part15_eq_skeleton]; unfold onBufs k0_part15_skel
  simp only [semSignalWord, semWaitWord, semSignalHereWord, Prog.lift, Prog.bind_op, Prog.bind_ret, Prog.pure_eq_ret, wp_deviceId]
  refine load_xw m ρ fun _ _ => ?_
  refine store_row m ρ 5 rfl ?_
  refine load_x m ρ ?_
  refine load_coef m ρ ?_
  refine load_xw m ρ fun _ _ => ?_
  exact ret_intro (h _)

theorem part16 {v2 : BitVec 32} {v553 : Vec F S32x1024 .bf16} {Q : (Σ' (v593 : BitVec 32) (c16_i32_302 : BitVec 32), BitVec 32) → sProp 𝕄}
    (h : ∀ r, St m ρ K c sg w pd sn sc rv z bar gt sl rw ch (· = cfC m ρ c) Pe (XWp m ρ c 8) Po ⊢ Q r) :
    St m ρ K c sg w pd sn sc rv z bar gt sl rw ch (· = cfC m ρ c) Pe (XWp m ρ c 6) Po ⊢ WP c (onBufs (k0_part16 (F := F)) c v2 (k0_pay19 (xB m ρ c 6) (cfB m ρ c 6)) v553) Q := by
  rw [k0_part16_eq_skeleton]; unfold onBufs k0_part16_skel
  simp only [semSignalWord, semWaitWord, semSignalHereWord, Prog.lift, Prog.bind_op, Prog.bind_ret, Prog.pure_eq_ret, wp_deviceId]
  refine store_row m ρ 6 rfl ?_
  refine load_x m ρ ?_
  refine load_coef m ρ ?_
  refine load_xw m ρ fun _ _ => ?_
  refine store_row m ρ 7 rfl ?_
  exact ret_intro (h _)

theorem part17 {v2 : BitVec 32} {v593 : BitVec 32} {c16_i32_302 : BitVec 32} {c0_i32_303 : BitVec 32} {Q : (Σ' (v631 : BitVec 32) (v632 : BitVec 32) (v633 : BitVec 1) (v634 : BitVec 1), BitVec 32) → sProp 𝕄}
    (h : ∀ r, St m ρ K c sg w pd sn sc rv z bar gt sl rw ch (· = cfC m ρ c) Pe (XWp m ρ c 9) Po ⊢ Q r) :
    St m ρ K c sg w pd sn sc rv z bar gt sl rw ch (· = cfC m ρ c) Pe (XWp m ρ c 8) Po ⊢ WP c (onBufs (k0_part17 (F := F)) c v2 v593 c16_i32_302 c0_i32_303) Q := by
  rw [k0_part17_eq_skeleton]; unfold onBufs k0_part17_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 8 rfl ?_
  exact ret_intro (h _)

theorem part18 {v2 : BitVec 32} {v631 : BitVec 32} {v632 : BitVec 32} {v633 : BitVec 1} {v634 : BitVec 1} {c0_i32_320 : BitVec 32} {Q : (BitVec 32) → sProp 𝕄}
    (h : ∀ r, St m ρ K c sg w pd sn sc rv z bar gt sl rw ch (· = cfC m ρ c) Pe (XWp m ρ c 10) Po ⊢ Q r) :
    St m ρ K c sg w pd sn sc rv z bar gt sl rw ch (· = cfC m ρ c) Pe (XWp m ρ c 9) Po ⊢ WP c (onBufs (k0_part18 (F := F)) c v2 v631 v632 v633 v634 c0_i32_320) Q := by
  rw [k0_part18_eq_skeleton]; unfold onBufs k0_part18_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 9 rfl ?_
  exact ret_intro (h _)

theorem part19 {v2 : BitVec 32} {v675 : BitVec 32} {Q : (Σ' (v715 : FVec F S32x256 .f32) (v718 : Vec F S32x4 .f32), FVec F S32x256 .f32) → sProp 𝕄}
    (h : St m ρ K c sg w pd sn sc rv z bar gt sl rw ch (· = cfC m ρ c) Pe (XWp m ρ c 11) Po ⊢ Q ⟨k0_pay25 (xB m ρ c 11), (cfB m ρ c 11), k0_pay26 (cfB m ρ c 11)⟩) :
    St m ρ K c sg w pd sn sc rv z bar gt sl rw ch (· = cfC m ρ c) Pe (XWp m ρ c 10) Po ⊢ WP c (onBufs (k0_part19 (F := F)) c v2 v675) Q := by
  rw [k0_part19_eq_skeleton]; unfold onBufs k0_part19_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 10 rfl ?_
  refine load_x m ρ ?_
  refine load_coef m ρ ?_
  exact ret_intro h

theorem part20 {v2 : BitVec 32} {Q : (Σ' (v751 : FVec F S32x256 .f32) (v757 : FVec F S32x256 .f32) (v760 : FVec F S32x256 .f32) (v763 : FVec F S32x256 .f32), FVec F S32x256 .f32) → sProp 𝕄}
    (h : St m ρ K c sg w pd sn sc rv z bar gt sl rw ch (· = cfC m ρ c) Pe (XWp m ρ c 12) Po ⊢ Q ⟨k0_pay28 (xB m ρ c 12), k0_pay29 (xB m ρ c 12) (cfB m ρ c 12), k0_pay30 (xB m ρ c 12) (cfB m ρ c 12), k0_pay31 (xB m ρ c 12) (cfB m ρ c 12), k0_pay32 (cfB m ρ c 12)⟩) :
    St m ρ K c sg w pd sn sc rv z bar gt sl rw ch (· = cfC m ρ c) Pe (XWp m ρ c 11) Po ⊢ WP c (onBufs (k0_part20 (F := F)) c v2 (k0_pay25 (xB m ρ c 11)) (cfB m ρ c 11) (k0_pay26 (cfB m ρ c 11))) Q := by
  rw [k0_part20_eq_skeleton]; unfold onBufs k0_part20_skel
  simp only [semSignalWord, semWaitWord, semSignalHereWord, Prog.lift, Prog.bind_op, Prog.bind_ret, Prog.pure_eq_ret, wp_deviceId]
  refine load_xw m ρ fun _ _ => ?_
  refine store_row m ρ 11 rfl ?_
  refine load_x m ρ ?_
  refine load_coef m ρ ?_
  exact ret_intro h

theorem part21 {v2 : BitVec 32} {Q : (PUnit) → sProp 𝕄}
    (h : ∀ r, St m ρ K c sg w pd sn sc rv z bar gt sl rw ch (· = cfC m ρ c) Pe (XWp m ρ c 14) Po ⊢ Q r) :
    St m ρ K c sg w pd sn sc rv z bar gt sl rw ch (· = cfC m ρ c) Pe (XWp m ρ c 12) Po ⊢ WP c (onBufs (k0_part21 (F := F)) c v2 (k0_pay28 (xB m ρ c 12)) (k0_pay29 (xB m ρ c 12) (cfB m ρ c 12)) (k0_pay30 (xB m ρ c 12) (cfB m ρ c 12)) (k0_pay31 (xB m ρ c 12) (cfB m ρ c 12)) (k0_pay32 (cfB m ρ c 12))) Q := by
  rw [k0_part21_eq_skeleton]; unfold onBufs k0_part21_skel
  simp only [semSignalWord, semWaitWord, semSignalHereWord, Prog.lift, Prog.bind_op, Prog.bind_ret, Prog.pure_eq_ret, wp_deviceId]
  refine load_xw m ρ fun _ _ => ?_
  refine store_row m ρ 12 rfl ?_
  refine load_x m ρ ?_
  refine load_coef m ρ ?_
  refine load_xw m ρ fun _ _ => ?_
  refine store_row m ρ 13 rfl ?_
  exact ret_intro (h _)

theorem part22 {v2 : BitVec 32} {Q : (Σ' (v845 : BitVec 32), BitVec 32) → sProp 𝕄}
    (h : ∀ r, St m ρ K c sg w pd sn sc rv z bar gt sl rw ch (· = cfC m ρ c) Pe (XWp m ρ c 15) Po ⊢ Q r) :
    St m ρ K c sg w pd sn sc rv z bar gt sl rw ch (· = cfC m ρ c) Pe (XWp m ρ c 14) Po ⊢ WP c (onBufs (k0_part22 (F := F)) c v2) Q := by
  rw [k0_part22_eq_skeleton]; unfold onBufs k0_part22_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row m ρ 14 rfl ?_
  exact ret_intro (h _)

theorem part23 {v845 : BitVec 32} {v847 : BitVec 32} {Q : (Σ' (v885 : FVec F S128x512 .f32), Vec F S128x256 .bf16) → sProp 𝕄}
    (h : St m ρ K c sg w pd sn sc rv z bar gt sl rw ch (· = cfC m ρ c) (· = ebC m ρ c) (· = xwC m ρ c) Po ⊢ Q ⟨k0_pay37 (xwT m ρ c 1 0) (ebT m ρ c 0), xwT m ρ c 1 1⟩) :
    St m ρ K c sg w pd sn sc rv z bar gt sl rw ch (· = cfC m ρ c) (· = ebC m ρ c) (XWp m ρ c 15) Po ⊢ WP c (onBufs (k0_part23 (F := F)) c v845 v847) Q := by
  rw [k0_part23_eq_skeleton]; unfold onBufs k0_part23_skel
  simp only [semSignalWord, semWaitWord, semSignalHereWord, Prog.lift, Prog.bind_op, Prog.bind_ret, Prog.pure_eq_ret, wp_deviceId]
  refine load_x m ρ ?_
  refine load_coef m ρ ?_
  refine load_xw m ρ fun _ _ => ?_
  refine store_row_last m ρ rfl ?_
  refine load_tile m ρ ?_
  refine load_expert m ρ ?_
  refine load_tile m ρ ?_
  exact ret_intro h

end Cert.Moe

end
-- ==== Proof.BodyC.lean ====
module

public import proofs.«01_k».proof.Proof.BodyB

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}

/-- Storing a whole chunk turns it into its four rows of blocks, at the computed contents. -/
theorem store_chunk_to {α : Type} (q : Fin 4) (rw' : List (Fin 16)) {r : Rect S512x512} {wv : r.shape.Idx → Elt F .bf16} {hx hm} {Q : α → sProp 𝕄} {k : PUnit → Prog (TpuEff nD τ sig (Elt F) Λ₀ .tc) α}
    (hl : rowsOf q ++ rw = rw') (hr : r = chunkR q) (hw : HEq wv (sbBlk m ρ c q))
    (h : St m ρ K c sg w pd sn sc rv z bar gt sl rw' ch Pc Pe Px Po ⊢ WP c (k ⟨⟩) Q) :
    St m ρ K c sg w pd sn sc rv z bar gt sl rw (q :: ch) Pc Pe Px Po ⊢ WP c (.op (.store sbM r wv Finset.univ hx hm) k) Q := by
  subst hl
  exact store_chunk m ρ q hr hw h

/-! ## The chunks and the copies -/

theorem part24 {v2 : BitVec 32} {Q : (BitVec 32) → sProp 𝕄}
    (h : ∀ r, St m ρ K c [] w (5 :: pd) sn sc rv ((0, 5) :: z) bar gt sl (5 :: 6 :: 7 :: 8 :: rw) ch Pc (· = ebC m ρ c) (· = xwC m ρ c) Po ⊢ Q r) :
    St m ρ K c [] (5 :: w) pd sn sc rv z bar gt sl rw (1 :: ch) Pc (· = ebC m ρ c) (· = xwC m ρ c) Po ⊢ WP c (onBufs (k0_part24 (F := F)) v2 (k0_pay37 (xwT m ρ c 1 0) (ebT m ρ c 0)) (xwT m ρ c 1 1)) Q := by
  rw [k0_part24_eq_skeleton]; unfold onBufs k0_part24_skel
  simp only [semSignalWord, semWaitWord, semSignalHereWord, Prog.lift, Prog.bind_op, Prog.bind_ret, Prog.pure_eq_ret, wp_deviceId]
  refine load_expert m ρ ?_
  refine load_tile m ρ ?_
  refine load_expert m ρ ?_
  refine load_tile m ρ ?_
  refine load_expert m ρ ?_
  refine load_chunk m ρ 1 rfl fun _ => ?_
  refine store_chunk_to m ρ 1 (5 :: 6 :: 7 :: 8 :: rw) rfl rfl HEq.rfl ?_
  refine step_ready m ρ 5 (by decide) rfl rfl ?_
  exact ret_intro (h _)

theorem part25 {v2 : BitVec 32} {v917 : BitVec 32} {Q : (BitVec 32) → sProp 𝕄}
    (h : ∀ r, St m ρ K c [] w (6 :: pd) sn (sc ++ [5]) rv ((0, 6) :: z) bar gt sl rw ch Pc Pe Px Po ⊢ Q r) :
    St m ρ K c [] (6 :: w) (5 :: pd) (5 :: sn) sc rv z bar gt sl (5 :: rw) ch Pc Pe Px Po ⊢ WP c (onBufs (k0_part25 (F := F)) c v2 v917) Q := by
  rw [k0_part25_eq_skeleton]; unfold onBufs k0_part25_skel
  simp only [semSignalWord, semWaitWord, semSignalHereWord, Prog.lift, Prog.bind_op, Prog.bind_ret, Prog.pure_eq_ret, wp_deviceId]
  refine step_send m ρ 5 (by decide) (devE (by decide +kernel)) rfl rfl rfl rfl ?_
  refine step_ready m ρ 6 (by decide) rfl rfl ?_
  exact ret_intro (h _)

theorem part26 {v2 : BitVec 32} {Q : (Σ' (v961 : BitVec 32) (v975 : BitVec 32) (v976 : BitVec 32), BitVec 1) → sProp 𝕄}
    (h : ∀ r, St m ρ K c [] w (8 :: pd) sn (sc ++ [6] ++ [7]) rv ((0, 8) :: (0, 7) :: z) bar gt sl rw ch Pc Pe Px Po ⊢ Q r) :
    St m ρ K c [] (7 :: 8 :: w) (6 :: pd) (6 :: 7 :: sn) sc rv z bar gt sl (6 :: 7 :: rw) ch Pc Pe Px Po ⊢ WP c (onBufs (k0_part26 (F := F)) c v2) Q := by
  rw [k0_part26_eq_skeleton]; unfold onBufs k0_part26_skel
  simp only [semSignalWord, semWaitWord, semSignalHereWord, Prog.lift, Prog.bind_op, Prog.bind_ret, Prog.pure_eq_ret, wp_deviceId]
  refine step_send m ρ 6 (by decide) (devE (by decide +kernel)) rfl rfl rfl rfl ?_
  refine step_ready m ρ 7 (by decide) rfl rfl ?_
  refine step_send m ρ 7 (by decide) (devE (by decide +kernel)) rfl rfl rfl rfl ?_
  refine step_ready m ρ 8 (by decide) rfl rfl ?_
  exact ret_intro (h _)

theorem part27 {v975 : BitVec 32} {v976 : BitVec 32} {v977 : BitVec 1} {Q : (Σ' (v983 : BitVec 32) (v1003 : FVec F S128x512 .f32) (v1004 : Vec F S128x256 .bf16) (v1006 : FVec F S256x512 .bf16), FVec F S128x512 .f32) → sProp 𝕄}
    (h : ∀ j0, St m ρ K c [] w pd sn (sc ++ [8]) rv z bar gt sl rw ch Pc (· = ebC m ρ c) (· = xwC m ρ c) Po ⊢ Q ⟨j0, k0_pay39 (xwT m ρ c 2 0) (ebT m ρ c 0) (xwT m ρ c 2 1) (ebT m ρ c 1), (xwT m ρ c 2 2), k0_pay40 (ebT m ρ c 2), constant S128x512 .f32 0x00000000#32⟩) :
    St m ρ K c [] w (8 :: pd) (8 :: sn) sc rv z bar gt sl (8 :: rw) ch Pc (· = ebC m ρ c) (· = xwC m ρ c) Po ⊢ WP c (onBufs (k0_part27 (F := F)) c v975 v976 v977) Q := by
  rw [k0_part27_eq_skeleton]; unfold onBufs k0_part27_skel
  simp only [semSignalWord, semWaitWord, semSignalHereWord, Prog.lift, Prog.bind_op, Prog.bind_ret, Prog.pure_eq_ret, wp_deviceId]
  refine step_send m ρ 8 (by decide) (devE (by decide +kernel)) rfl rfl rfl rfl ?_
  refine load_tile m ρ ?_
  refine load_expert m ρ ?_
  refine load_tile m ρ ?_
  refine load_expert m ρ ?_
  refine load_tile m ρ ?_
  refine load_expert m ρ ?_
  exact ret_intro (h _)

theorem part28 {v2 : BitVec 32} {Q : (BitVec 32) → sProp 𝕄}
    (h : ∀ r, St m ρ K c [] w (9 :: pd) sn sc rv ((0, 9) :: z) bar gt sl (9 :: 10 :: 11 :: 12 :: rw) ch Pc (· = ebC m ρ c) (· = xwC m ρ c) Po ⊢ Q r) :
    St m ρ K c [] (9 :: w) pd sn sc rv z bar gt sl rw (2 :: ch) Pc (· = ebC m ρ c) (· = xwC m ρ c) Po ⊢ WP c (onBufs (k0_part28 (F := F)) v2 (k0_pay39 (xwT m ρ c 2 0) (ebT m ρ c 0) (xwT m ρ c 2 1) (ebT m ρ c 1)) (xwT m ρ c 2 2) (k0_pay40 (ebT m ρ c 2)) (constant S128x512 .f32 0x00000000#32)) Q := by
  rw [k0_part28_eq_skeleton]; unfold onBufs k0_part28_skel
  simp only [semSignalWord, semWaitWord, semSignalHereWord, Prog.lift, Prog.bind_op, Prog.bind_ret, Prog.pure_eq_ret, wp_deviceId]
  refine load_tile m ρ ?_
  refine load_expert m ρ ?_
  refine load_chunk m ρ 2 rfl fun _ => ?_
  refine store_chunk_to m ρ 2 (9 :: 10 :: 11 :: 12 :: rw) rfl rfl HEq.rfl ?_
  refine step_ready m ρ 9 (by decide) rfl rfl ?_
  exact ret_intro (h _)

theorem part29 {v2 : BitVec 32} {Q : (Σ' (v1052 : BitVec 32) (v1066 : BitVec 32), BitVec 32) → sProp 𝕄}
    (h : ∀ r, St m ρ K c [] w (11 :: pd) sn (sc ++ [9] ++ [10]) rv ((0, 11) :: (0, 10) :: z) bar gt sl rw ch Pc Pe Px Po ⊢ Q r) :
    St m ρ K c [] (10 :: 11 :: w) (9 :: pd) (9 :: 10 :: sn) sc rv z bar gt sl (9 :: 10 :: rw) ch Pc Pe Px Po ⊢ WP c (onBufs (k0_part29 (F := F)) c v2) Q := by
  rw [k0_part29_eq_skeleton]; unfold onBufs k0_part29_skel
  simp only [semSignalWord, semWaitWord, semSignalHereWord, Prog.lift, Prog.bind_op, Prog.bind_ret, Prog.pure_eq_ret, wp_deviceId]
  refine step_send m ρ 9 (by decide) (devE (by decide +kernel)) rfl rfl rfl rfl ?_
  refine step_ready m ρ 10 (by decide) rfl rfl ?_
  refine step_send m ρ 10 (by decide) (devE (by decide +kernel)) rfl rfl rfl rfl ?_
  refine step_ready m ρ 11 (by decide) rfl rfl ?_
  exact ret_intro (h _)

theorem part30 {v2 : BitVec 32} {v1066 : BitVec 32} {v1067 : BitVec 32} {Q : (Σ' (v1074 : BitVec 32), BitVec 32) → sProp 𝕄}
    (h : ∀ r, St m ρ K c [] w (12 :: pd) sn (sc ++ [11]) rv ((0, 12) :: z) bar gt sl rw ch Pc Pe Px Po ⊢ Q r) :
    St m ρ K c [] (12 :: w) (11 :: pd) (11 :: sn) sc rv z bar gt sl (11 :: rw) ch Pc Pe Px Po ⊢ WP c (onBufs (k0_part30 (F := F)) c v2 v1066 v1067) Q := by
  rw [k0_part30_eq_skeleton]; unfold onBufs k0_part30_skel
  simp only [semSignalWord, semWaitWord, semSignalHereWord, Prog.lift, Prog.bind_op, Prog.bind_ret, Prog.pure_eq_ret, wp_deviceId]
  refine step_send m ρ 11 (by decide) (devE (by decide +kernel)) rfl rfl rfl rfl ?_
  refine step_ready m ρ 12 (by decide) rfl rfl ?_
  exact ret_intro (h _)

theorem part31  {Q : (FVec F S128x512 .bf16) → sProp 𝕄}
    (h : St m ρ K c [] w pd sn (sc ++ [12]) rv z bar gt sl rw ch Pc (· = ebC m ρ c) (· = xwC m ρ c) Po ⊢ Q (k0_pay42 (xwT m ρ c 0 0) (ebT m ρ c 0) (xwT m ρ c 0 1) (ebT m ρ c 1) (xwT m ρ c 0 2) (ebT m ρ c 2) (xwT m ρ c 0 3) (ebT m ρ c 3))) :
    St m ρ K c [] w (12 :: pd) (12 :: sn) sc rv z bar gt sl (12 :: rw) ch Pc (· = ebC m ρ c) (· = xwC m ρ c) Po ⊢ WP c (onBufs (k0_part31 (F := F)) c) Q := by
  rw [k0_part31_eq_skeleton]; unfold onBufs k0_part31_skel
  simp only [semSignalWord, semWaitWord, semSignalHereWord, Prog.lift, Prog.bind_op, Prog.bind_ret, Prog.pure_eq_ret, wp_deviceId]
  refine step_send m ρ 12 (by decide) (devE (by decide +kernel)) rfl rfl rfl rfl ?_
  refine load_tile m ρ ?_
  refine load_expert m ρ ?_
  refine load_tile m ρ ?_
  refine load_expert m ρ ?_
  refine load_tile m ρ ?_
  refine load_expert m ρ ?_
  refine load_tile m ρ ?_
  refine load_expert m ρ ?_
  exact ret_intro h

theorem part32 {v2 : BitVec 32} {Q : (Σ' (v1143 : BitVec 32) (v1155 : BitVec 32) (c16_i32_650 : BitVec 32) (v1156 : BitVec 1), BitVec 32) → sProp 𝕄}
    (h : ∀ r, St m ρ K c [] w (2 :: pd) sn (sc ++ [1]) rv ((0, 2) :: (0, 1) :: z) bar gt sl (2 :: 3 :: 4 :: rw) ch Pc Pe Px Po ⊢ Q r) :
    St m ρ K c [] (1 :: 2 :: w) pd (1 :: sn) sc rv z bar gt sl rw (0 :: ch) Pc Pe Px Po ⊢ WP c (onBufs (k0_part32 (F := F)) c v2 (k0_pay42 (xwT m ρ c 0 0) (ebT m ρ c 0) (xwT m ρ c 0 1) (ebT m ρ c 1) (xwT m ρ c 0 2) (ebT m ρ c 2) (xwT m ρ c 0 3) (ebT m ρ c 3))) Q := by
  rw [k0_part32_eq_skeleton]; unfold onBufs k0_part32_skel
  simp only [semSignalWord, semWaitWord, semSignalHereWord, Prog.lift, Prog.bind_op, Prog.bind_ret, Prog.pure_eq_ret, wp_deviceId]
  refine load_chunk m ρ 0 rfl fun _ => ?_
  refine store_chunk_to m ρ 0 (1 :: 2 :: 3 :: 4 :: rw) rfl rfl HEq.rfl ?_
  refine step_ready m ρ 1 (by decide) rfl rfl ?_
  refine step_send m ρ 1 (by decide) (devE (by decide +kernel)) rfl rfl rfl rfl ?_
  refine step_ready m ρ 2 (by decide) rfl rfl ?_
  exact ret_intro (h _)

theorem part33 {v2 : BitVec 32} {v1155 : BitVec 32} {c16_i32_650 : BitVec 32} {v1156 : BitVec 1} {c1_i32_652 : BitVec 32} {Q : (Σ' (v1165 : BitVec 32) (v1187 : BitVec 32), BitVec 32) → sProp 𝕄}
    (h : ∀ r, St m ρ K c [] w (3 :: pd) sn (sc ++ [2]) rv ((0, 3) :: z) bar gt sl rw ch Pc Pe Px Po ⊢ Q r) :
    St m ρ K c [] (3 :: w) (2 :: pd) (2 :: sn) sc rv z bar gt sl (2 :: rw) ch Pc Pe Px Po ⊢ WP c (onBufs (k0_part33 (F := F)) c v2 v1155 c16_i32_650 v1156 c1_i32_652) Q := by
  rw [k0_part33_eq_skeleton]; unfold onBufs k0_part33_skel
  simp only [semSignalWord, semWaitWord, semSignalHereWord, Prog.lift, Prog.bind_op, Prog.bind_ret, Prog.pure_eq_ret, wp_deviceId]
  refine step_send m ρ 2 (by decide) (devE (by decide +kernel)) rfl rfl rfl rfl ?_
  refine step_ready m ρ 3 (by decide) rfl rfl ?_
  exact ret_intro (h _)

theorem part34 {v2 : BitVec 32} {v1188 : BitVec 32} {Q : (Σ' (v1209 : BitVec 32), FVec F S128x512 .f32) → sProp 𝕄}
    (h : ∀ j0, St m ρ K c [] w pd sn (sc ++ [3] ++ [4]) rv ((0, 4) :: z) bar gt sl rw ch Pc Pe Px Po ⊢ Q ⟨j0, k0_pay44 (F := F)⟩) :
    St m ρ K c [] (4 :: w) (3 :: pd) (3 :: 4 :: sn) sc rv z bar gt sl (3 :: 4 :: rw) ch Pc Pe Px Po ⊢ WP c (onBufs (k0_part34 (F := F)) c v2 v1188) Q := by
  rw [k0_part34_eq_skeleton]; unfold onBufs k0_part34_skel
  simp only [semSignalWord, semWaitWord, semSignalHereWord, Prog.lift, Prog.bind_op, Prog.bind_ret, Prog.pure_eq_ret, wp_deviceId]
  refine step_send m ρ 3 (by decide) (devE (by decide +kernel)) rfl rfl rfl rfl ?_
  refine step_ready m ρ 4 (by decide) rfl rfl ?_
  refine step_send m ρ 4 (by decide) (devE (by decide +kernel)) rfl rfl rfl rfl ?_
  exact ret_intro (h _)

theorem part35 {v2 : BitVec 32} {Q : (Σ' (v1246 : BitVec 32) (c16_i32_732 : BitVec 32), BitVec 32) → sProp 𝕄}
    (h : ∀ r, St m ρ K c [] w (13 :: pd) sn sc rv ((0, 13) :: z) bar gt sl (13 :: 14 :: 15 :: 0 :: rw) ch Pc (· = ebC m ρ c) (· = xwC m ρ c) Po ⊢ Q r) :
    St m ρ K c [] (13 :: w) pd sn sc rv z bar gt sl rw (3 :: ch) Pc (· = ebC m ρ c) (· = xwC m ρ c) Po ⊢ WP c (onBufs (k0_part35 (F := F)) v2 (k0_pay44 (F := F))) Q := by
  rw [k0_part35_eq_skeleton]; unfold onBufs k0_part35_skel
  simp only [semSignalWord, semWaitWord, semSignalHereWord, Prog.lift, Prog.bind_op, Prog.bind_ret, Prog.pure_eq_ret, wp_deviceId]
  refine load_tile m ρ ?_
  refine load_expert m ρ ?_
  refine load_tile m ρ ?_
  refine load_expert m ρ ?_
  refine load_tile m ρ ?_
  refine load_expert m ρ ?_
  refine load_tile m ρ ?_
  refine load_expert m ρ ?_
  refine load_chunk m ρ 3 rfl fun _ => ?_
  refine store_chunk_to m ρ 3 (13 :: 14 :: 15 :: 0 :: rw) rfl rfl HEq.rfl ?_
  refine step_ready m ρ 13 (by decide) rfl rfl ?_
  exact ret_intro (h _)

theorem part36 {v2 : BitVec 32} {v1246 : BitVec 32} {c16_i32_732 : BitVec 32} {c0_i32_733 : BitVec 32} {Q : (Σ' (v1256 : BitVec 32), BitVec 32) → sProp 𝕄}
    (h : ∀ r, St m ρ K c [] w (14 :: pd) sn (sc ++ [13]) rv ((0, 14) :: z) bar gt sl rw ch Pc Pe Px Po ⊢ Q r) :
    St m ρ K c [] (14 :: w) (13 :: pd) (13 :: sn) sc rv z bar gt sl (13 :: rw) ch Pc Pe Px Po ⊢ WP c (onBufs (k0_part36 (F := F)) c v2 v1246 c16_i32_732 c0_i32_733) Q := by
  rw [k0_part36_eq_skeleton]; unfold onBufs k0_part36_skel
  simp only [semSignalWord, semWaitWord, semSignalHereWord, Prog.lift, Prog.bind_op, Prog.bind_ret, Prog.pure_eq_ret, wp_deviceId]
  refine step_send m ρ 13 (by decide) (devE (by decide +kernel)) rfl rfl rfl rfl ?_
  refine step_ready m ρ 14 (by decide) rfl rfl ?_
  exact ret_intro (h _)

theorem part37 {v2 : BitVec 32} {v1278 : BitVec 32} {Q : (BitVec 32) → sProp 𝕄}
    (h : ∀ r, St m ρ K c [] w pd sn (sc ++ [14] ++ [15]) rv ((0, 15) :: z) bar gt sl rw ch Pc Pe Px Po ⊢ Q r) :
    St m ρ K c [] (15 :: w) (14 :: pd) (14 :: 15 :: sn) sc rv z bar gt sl (14 :: 15 :: rw) ch Pc Pe Px Po ⊢ WP c (onBufs (k0_part37 (F := F)) c v2 v1278) Q := by
  rw [k0_part37_eq_skeleton]; unfold onBufs k0_part37_skel
  simp only [semSignalWord, semWaitWord, semSignalHereWord, Prog.lift, Prog.bind_op, Prog.bind_ret, Prog.pure_eq_ret, wp_deviceId]
  refine step_send m ρ 14 (by decide) (devE (by decide +kernel)) rfl rfl rfl rfl ?_
  refine step_ready m ρ 15 (by decide) rfl rfl ?_
  refine step_send m ρ 15 (by decide) (devE (by decide +kernel)) rfl rfl rfl rfl ?_
  exact ret_intro (h _)

end Cert.Moe

end
-- ==== Proof.BodyD.lean ====
module

public import proofs.«01_k».proof.Proof.BodyC

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}

/-- The device's own input rows. -/
abbrev xOwn (c : Dev nD) : Vec F S32x256 .f32 := xM.view.readAt (Elt F) (Rect.unit (s := S512x256) (k0_off3 c) S32x256.size (k0_off3_inb c)).toLoadRect (xC m ρ c)
/-- The shared weights. -/
abbrev swAll (c : Dev nD) : Vec F S256x512 .f32 := swM.view.readAt (Elt F) (Rect.unit (s := S256x512) ![0, 0] S256x512.size inb_S256x512_S256x512_0_0).toLoadRect (swC m ρ c)

/-! ## The rows the device keeps, and the waits -/

theorem part38 {v2 : BitVec 32} {v917 : BitVec 32} {v939 : BitVec 32} {v961 : BitVec 32} {Q : (Σ' (v1320 : FVec F S32x512 .f32), BitVec 32) → sProp 𝕄}
    (h : ∀ j0, St m ρ K c [] w pd [] sc rv ((2, 6) :: (2, 5) :: z) bar (6 :: 5 :: 0 :: gt) sl (0 :: rw) ch Pc Pe Px Po ⊢ Q ⟨k0_pay47 (xOwn m ρ c) (swAll m ρ c), j0⟩) :
    St m ρ K c [] w pd [] sc (5 :: 6 :: rv) z bar gt (0 :: sl) (0 :: rw) ch Pc Pe Px Po ⊢ WP c (onBufs (k0_part38 (F := F)) c v2 v917 v939 v961) Q := by
  rw [k0_part38_eq_skeleton]; unfold onBufs k0_part38_skel
  simp only [semSignalWord, semWaitWord, semSignalHereWord, Prog.lift, Prog.bind_op, Prog.bind_ret, Prog.pure_eq_ret, wp_deviceId]
  refine load_own m ρ ?_
  refine load_slot m ρ fun _ => ?_
  refine store_slot m ρ rfl ?_
  refine load_x m ρ ?_
  refine load_sw m ρ ?_
  refine step_recv m ρ 5 (by decide) rfl rfl ?_
  refine step_recv m ρ 6 (by decide) rfl rfl ?_
  exact ret_intro (h _)

theorem part39 {v983 : BitVec 32} {v1030 : BitVec 32} {v1052 : BitVec 32} {v1335 : BitVec 32} {Q : (PUnit) → sProp 𝕄}
    (h : ∀ r, St m ρ K c [] w pd [] sc rv ((2, 9) :: (2, 8) :: (2, 7) :: z) bar (9 :: 8 :: 7 :: gt) sl rw ch Pc Pe Px Po ⊢ Q r) :
    St m ρ K c [] w pd [] sc (7 :: 8 :: 9 :: rv) z bar gt sl rw ch Pc Pe Px Po ⊢ WP c (onBufs (k0_part39 (F := F)) v983 v1030 v1052 v1335) Q := by
  rw [k0_part39_eq_skeleton]; unfold onBufs k0_part39_skel
  simp only [semSignalWord, semWaitWord, semSignalHereWord, Prog.lift, Prog.bind_op, Prog.bind_ret, Prog.pure_eq_ret, wp_deviceId]
  refine step_recv m ρ 7 (by decide) rfl rfl ?_
  refine step_recv m ρ 8 (by decide) rfl rfl ?_
  refine step_recv m ρ 9 (by decide) rfl rfl ?_
  exact ret_intro (h _)

theorem part40 {v1074 : BitVec 32} {v1096 : BitVec 32} {v1143 : BitVec 32} {v1165 : BitVec 32} {Q : (Σ' (v1384 : BitVec 32), BitVec 32) → sProp 𝕄}
    (h : ∀ r, St m ρ K c [] w pd [] sc rv ((2, 1) :: (2, 12) :: (2, 11) :: (2, 10) :: z) bar (1 :: 12 :: 11 :: 10 :: gt) sl rw ch Pc Pe Px Po ⊢ Q r) :
    St m ρ K c [] w pd [] sc (10 :: 11 :: 12 :: 1 :: rv) z bar gt sl rw ch Pc Pe Px Po ⊢ WP c (onBufs (k0_part40 (F := F)) v1074 v1096 v1143 v1165) Q := by
  rw [k0_part40_eq_skeleton]; unfold onBufs k0_part40_skel
  simp only [semSignalWord, semWaitWord, semSignalHereWord, Prog.lift, Prog.bind_op, Prog.bind_ret, Prog.pure_eq_ret, wp_deviceId]
  refine step_recv m ρ 10 (by decide) rfl rfl ?_
  refine step_recv m ρ 11 (by decide) rfl rfl ?_
  refine step_recv m ρ 12 (by decide) rfl rfl ?_
  refine step_recv m ρ 1 (by decide) rfl rfl ?_
  exact ret_intro (h _)

theorem part41 {v1187 : BitVec 32} {v1209 : BitVec 32} {v1256 : BitVec 32} {v1384 : BitVec 32} {c0_i32_877 : BitVec 32} {Q : (PUnit) → sProp 𝕄}
    (h : ∀ r, St m ρ K c [] w pd [] sc rv ((2, 4) :: (2, 3) :: (2, 2) :: z) bar (4 :: 3 :: 2 :: gt) sl rw ch Pc Pe Px Po ⊢ Q r) :
    St m ρ K c [] w pd [] sc (2 :: 3 :: 4 :: rv) z bar gt sl rw ch Pc Pe Px Po ⊢ WP c (onBufs (k0_part41 (F := F)) v1187 v1209 v1256 v1384 c0_i32_877) Q := by
  rw [k0_part41_eq_skeleton]; unfold onBufs k0_part41_skel
  simp only [semSignalWord, semWaitWord, semSignalHereWord, Prog.lift, Prog.bind_op, Prog.bind_ret, Prog.pure_eq_ret, wp_deviceId]
  refine step_recv m ρ 2 (by decide) rfl rfl ?_
  refine step_recv m ρ 3 (by decide) rfl rfl ?_
  refine step_recv m ρ 4 (by decide) rfl rfl ?_
  exact ret_intro (h _)

theorem part42 {v1278 : BitVec 32} {v1300 : BitVec 32} {Q : (PUnit) → sProp 𝕄}
    (h : ∀ r, St m ρ K c [] w pd [] sc rv ((1, 5) :: (2, 15) :: (2, 14) :: (2, 13) :: z) bar (15 :: 14 :: 13 :: gt) sl (5 :: rw) ch Pc Pe Px Po ⊢ Q r) :
    St m ρ K c [] w pd [] (5 :: sc) (13 :: 14 :: 15 :: rv) z bar gt sl rw ch Pc Pe Px Po ⊢ WP c (onBufs (k0_part42 (F := F)) v1278 v1300) Q := by
  rw [k0_part42_eq_skeleton]; unfold onBufs k0_part42_skel
  simp only [semSignalWord, semWaitWord, semSignalHereWord, Prog.lift, Prog.bind_op, Prog.bind_ret, Prog.pure_eq_ret, wp_deviceId]
  refine step_recv m ρ 13 (by decide) rfl rfl ?_
  refine step_recv m ρ 14 (by decide) rfl rfl ?_
  refine step_recv m ρ 15 (by decide) rfl rfl ?_
  refine step_sent m ρ 5 (by decide) rfl rfl ?_
  exact ret_intro (h _)

theorem part43  {Q : (PUnit) → sProp 𝕄}
    (h : ∀ r, St m ρ K c [] w pd [] sc rv ((1, 10) :: (1, 9) :: (1, 8) :: (1, 7) :: (1, 6) :: z) bar gt sl (10 :: 9 :: 8 :: 7 :: 6 :: rw) ch Pc Pe Px Po ⊢ Q r) :
    St m ρ K c [] w pd [] (6 :: 7 :: 8 :: 9 :: 10 :: sc) rv z bar gt sl rw ch Pc Pe Px Po ⊢ WP c (onBufs (k0_part43 (F := F)) ) Q := by
  rw [k0_part43_eq_skeleton]; unfold onBufs k0_part43_skel
  simp only [semSignalWord, semWaitWord, semSignalHereWord, Prog.lift, Prog.bind_op, Prog.bind_ret, Prog.pure_eq_ret, wp_deviceId]
  refine step_sent m ρ 6 (by decide) rfl rfl ?_
  refine step_sent m ρ 7 (by decide) rfl rfl ?_
  refine step_sent m ρ 8 (by decide) rfl rfl ?_
  refine step_sent m ρ 9 (by decide) rfl rfl ?_
  refine step_sent m ρ 10 (by decide) rfl rfl ?_
  exact ret_intro (h _)

theorem part44  {Q : (PUnit) → sProp 𝕄}
    (h : ∀ r, St m ρ K c [] w pd [] sc rv ((1, 2) :: (1, 1) :: (1, 12) :: (1, 11) :: z) bar gt sl (2 :: 1 :: 12 :: 11 :: rw) ch Pc Pe Px Po ⊢ Q r) :
    St m ρ K c [] w pd [] (11 :: 12 :: 1 :: 2 :: sc) rv z bar gt sl rw ch Pc Pe Px Po ⊢ WP c (onBufs (k0_part44 (F := F)) ) Q := by
  rw [k0_part44_eq_skeleton]; unfold onBufs k0_part44_skel
  simp only [semSignalWord, semWaitWord, semSignalHereWord, Prog.lift, Prog.bind_op, Prog.bind_ret, Prog.pure_eq_ret, wp_deviceId]
  refine step_sent m ρ 11 (by decide) rfl rfl ?_
  refine step_sent m ρ 12 (by decide) rfl rfl ?_
  refine step_sent m ρ 1 (by decide) rfl rfl ?_
  refine step_sent m ρ 2 (by decide) rfl rfl ?_
  exact ret_intro (h _)

theorem part45  {Q : (PUnit) → sProp 𝕄}
    (h : ∀ r, St m ρ K c [] w pd [] sc rv ((1, 14) :: (1, 13) :: (1, 4) :: (1, 3) :: z) bar gt sl (14 :: 13 :: 4 :: 3 :: rw) ch Pc Pe Px Po ⊢ Q r) :
    St m ρ K c [] w pd [] (3 :: 4 :: 13 :: 14 :: sc) rv z bar gt sl rw ch Pc Pe Px Po ⊢ WP c (onBufs (k0_part45 (F := F)) ) Q := by
  rw [k0_part45_eq_skeleton]; unfold onBufs k0_part45_skel
  simp only [semSignalWord, semWaitWord, semSignalHereWord, Prog.lift, Prog.bind_op, Prog.bind_ret, Prog.pure_eq_ret, wp_deviceId]
  refine step_sent m ρ 3 (by decide) rfl rfl ?_
  refine step_sent m ρ 4 (by decide) rfl rfl ?_
  refine step_sent m ρ 13 (by decide) rfl rfl ?_
  refine step_sent m ρ 14 (by decide) rfl rfl ?_
  exact ret_intro (h _)

end Cert.Moe

end
-- ==== Proof.BodyE.lean ====
module

public import proofs.«01_k».proof.Proof.BodyD

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {K : Dev nD × KIx → ℕ} {c : Dev nD} {sg w pd sn sc rv : List (Fin 16)} {z : List (Fin 3 × Fin 16)} {bar : Bool}
    {gt sl rw : List (Fin 16)} {ch : List (Fin 4)}
    {Pc : (cc0_scratch0 : Ref sig .tc).ty.Contents (Elt F) → Prop} {Pe : (cc0_scratch2 : Ref sig .tc).ty.Contents (Elt F) → Prop}
    {Px : (cc0_scratch1 : Ref sig .tc).ty.Contents (Elt F) → Prop} {Po : (cc0_stg5_0 : Ref sig .tc).ty.Contents (Elt F) → Prop}

theorem bind_intro {α β : Type} {S : sProp 𝕄} {Q : β → sProp 𝕄} {p : Prog (TpuEff nD τ sig (Elt F) Λ₀ .tc) α} {k : α → Prog (TpuEff nD τ sig (Elt F) Λ₀ .tc) β}
    (h : S ⊢ WP c p (fun r => WP c (k r) Q)) : S ⊢ WP c (p >>= k) Q := by
  refine h.trans (Entails.of_eq ?_)
  unfold WP
  exact (wp_bind ..).symm

/-- The order in which a device sends, and waits. -/
def sendOrder : List (Fin 16) := [5, 6, 7, 8, 9, 10, 11, 12, 1, 2, 3, 4, 13, 14, 15]
/-- The slots in hand at the end. -/
def gtEnd : List (Fin 16) := [15, 14, 13, 4, 3, 2, 1, 12, 11, 10, 9, 8, 7, 6, 5, 0]
/-- The rows of the send buffer in hand at the end. -/
def rwEnd : List (Fin 16) := [15, 14, 13, 4, 3, 2, 1, 12, 11, 10, 9, 8, 7, 6, 5, 0]
/-- The cells read to zero at the end. -/
def zEnd (z : List (Fin 3 × Fin 16)) : List (Fin 3 × Fin 16) := (1, 15) :: (1, 14) :: (1, 13) :: (1, 4) :: (1, 3) :: (1, 2) :: (1, 1) :: (1, 12) :: (1, 11) :: (1, 10) :: (1, 9) :: (1, 8) :: (1, 7) :: (1, 6) :: (1, 5) :: (2, 15) :: (2, 14) :: (2, 13) :: (2, 4) :: (2, 3) :: (2, 2) :: (2, 1) :: (2, 12) :: (2, 11) :: (2, 10) :: (2, 9) :: (2, 8) :: (2, 7) :: (2, 6) :: (2, 5) :: (0, 15) :: (0, 14) :: (0, 13) :: (0, 4) :: (0, 3) :: (0, 2) :: (0, 1) :: (0, 12) :: (0, 11) :: (0, 10) :: (0, 9) :: (0, 8) :: (0, 7) :: (0, 6) :: (0, 5) :: z

/-- The state before the body's first operation. -/
abbrev StFirst (K : Dev nD × KIx → ℕ) (c : Dev nD) (z : List (Fin 3 × Fin 16)) (Pc : (cc0_scratch0 : Ref sig .tc).ty.Contents (Elt F) → Prop) (Po : (cc0_stg5_0 : Ref sig .tc).ty.Contents (Elt F) → Prop) : sProp 𝕄 :=
  St m ρ K c [1, 2, 3, 4, 5, 6, 7, 8, 9, 10, 11, 12, 13, 14, 15] [5, 6, 7, 8, 9, 10, 11, 12, 1, 2, 3, 4, 13, 14, 15] [] [5, 6, 7, 8, 9, 10, 11, 12, 1, 2, 3, 4, 13, 14, 15] [] [5, 6, 7, 8, 9, 10, 11, 12, 1, 2, 3, 4, 13, 14, 15] z false [] [0] [] [1, 2, 0, 3] Pc (EBp m ρ c 0) (XWp m ρ c 0) Po
/-- The state after its last wait. -/
abbrev StLast (K : Dev nD × KIx → ℕ) (c : Dev nD) (z : List (Fin 3 × Fin 16)) (Po : (cc0_stg5_0 : Ref sig .tc).ty.Contents (Elt F) → Prop) : sProp 𝕄 :=
  St m ρ K c [] [] [] [] [] [] (zEnd z) true gtEnd [] rwEnd [] (· = cfC m ρ c) (· = ebC m ρ c) (· = xwC m ρ c) Po

theorem part46 {Q : FVec F S32x512 .f32 → sProp 𝕄}
    (h : StLast m ρ K c z Po ⊢ Q (k0_pay48 (k0_pay47 (xOwn m ρ c) (swAll m ρ c)) (gaM.view.readAt (Elt F) (Rect.unit (s := S16x32x512) ![0, 0, 0] S16x32x512.size inb_S16x32x512_S16x32x512_0_0_0).toLoadRect (gaC m ρ c)))) :
    StFirst m ρ K c z Pc Po ⊢ WP c (onBufs (k0_part46 (F := F))) Q := by
  rw [k0_part46_eq_skeleton]; unfold onBufs k0_part46_skel
  refine bind_intro (part1 m ρ ?_)
  refine bind_intro (part2 m ρ (fun ⟨_, _, _, _⟩ => ?_))
  refine bind_intro (part3 m ρ (fun ⟨_, _, _, _⟩ => ?_))
  refine bind_intro (part4 m ρ (fun _ => ?_))
  refine bind_intro (part5 m ρ (fun _ => ?_))
  refine bind_intro (part6 m ρ (fun ⟨_, _⟩ => ?_))
  refine bind_intro (part7 m ρ (fun _ => ?_))
  refine bind_intro (part8 m ρ ?_)
  refine bind_intro (part9 m ρ ?_)
  refine bind_intro (part10 m ρ (fun ⟨_, _⟩ => ?_))
  refine bind_intro (part11 m ρ (fun ⟨_, _, _⟩ => ?_))
  refine bind_intro (part12 m ρ (fun ⟨_, _⟩ => ?_))
  refine bind_intro (part13 m ρ ?_)
  refine bind_intro (part14 m ρ ?_)
  refine bind_intro (part15 m ρ (fun v => ?_))
  refine bind_intro (part16 m ρ (fun ⟨_, _, _⟩ => ?_))
  refine bind_intro (part17 m ρ (fun ⟨_, _, _, _, _⟩ => ?_))
  refine bind_intro (part18 m ρ (fun _ => ?_))
  refine bind_intro (part19 m ρ ?_)
  refine bind_intro (part20 m ρ ?_)
  refine bind_intro (part21 m ρ (fun _ => ?_))
  refine bind_intro (part22 m ρ (fun ⟨_, _⟩ => ?_))
  refine bind_intro (part23 m ρ ?_)
  refine bind_intro (part24 m ρ (fun _ => ?_))
  refine bind_intro (part25 m ρ (fun _ => ?_))
  refine bind_intro (part26 m ρ (fun ⟨_, _, _, _⟩ => ?_))
  refine bind_intro (part27 m ρ (fun _ => ?_))
  refine bind_intro (part28 m ρ (fun _ => ?_))
  refine bind_intro (part29 m ρ (fun ⟨_, _, _⟩ => ?_))
  refine bind_intro (part30 m ρ (fun ⟨_, _⟩ => ?_))
  refine bind_intro (part31 m ρ ?_)
  refine bind_intro (part32 m ρ (fun ⟨_, _, _, _, _⟩ => ?_))
  refine bind_intro (part33 m ρ (fun ⟨_, _, _⟩ => ?_))
  refine bind_intro (part34 m ρ (fun _ => ?_))
  refine bind_intro (part35 m ρ (fun ⟨_, _, _⟩ => ?_))
  refine bind_intro (part36 m ρ (fun ⟨_, _⟩ => ?_))
  refine bind_intro (part37 m ρ (fun _ => ?_))
  refine bind_intro (part38 m ρ (fun _ => ?_))
  refine bind_intro (part39 m ρ (fun _ => ?_))
  refine bind_intro (part40 m ρ (fun ⟨_, _⟩ => ?_))
  refine bind_intro (part41 m ρ (fun _ => ?_))
  refine bind_intro (part42 m ρ (fun _ => ?_))
  refine bind_intro (part43 m ρ (fun _ => ?_))
  refine bind_intro (part44 m ρ (fun _ => ?_))
  refine bind_intro (part45 m ρ (fun _ => ?_))
  simp only [Prog.lift, Prog.bind_op, Prog.bind_ret, Prog.pure_eq_ret]
  refine step_sent m ρ 15 (by decide) rfl rfl ?_
  refine load_gather m ρ (by decide) (by decide) ?_
  exact ret_intro h

end Cert.Moe

end
-- ==== Proof.Whole.lean ====
/-
# The whole body

The body from what the launch gives a device to what the pipeline takes back: the start's resources laid out in the
order `StFirst` lists them, the body run, and the last state gathered again.
-/
module

public import proofs.«01_k».proof.Proof.BodyE
public import proofs.«01_k».proof.Proof.Gen.KernelIdeal.Points
public import proofs.«01_k».proof.Proof.Gen.KernelIdeal.Launch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Lists and families -/

theorem lsep_bigSep {A : Type} [DecidableEq A] (Φ : A → sProp 𝕄) (l : List A) (hl : l.Nodup) : bigSep l.toFinset Φ = lsep Φ l := by
  induction l with
  | nil => exact bigSep_empty
  | cons a l ih =>
    rw [List.toFinset_cons, bigSep_insert (by rw [List.mem_toFinset]; exact (List.nodup_cons.mp hl).1), ih (List.nodup_cons.mp hl).2]; rfl

theorem lsep_split {A : Type} (Φ : A → sProp 𝕄) (l l' : List A) : lsep Φ (l ++ l') ⊢ iprop(lsep Φ l ∗ lsep Φ l') := by
  induction l with
  | nil =>
    show lsep Φ l' ⊢ iprop(emp ∗ lsep Φ l')
    iintro H
    isplitr; · iempintro
    iexact H
  | cons b l ih =>
    show iprop(Φ b ∗ lsep Φ (l ++ l')) ⊢ iprop((Φ b ∗ lsep Φ l) ∗ lsep Φ l')
    iintro ⟨Hb, H⟩
    ihave H' := ih $$ H
    icases H' with ⟨H1, H2⟩
    isplitl [Hb H1]
    · isplitl [Hb] <;> iassumption
    iexact H2

theorem lsep_map {A B : Type} (f : A → B) (Φ : B → sProp 𝕄) (l : List A) : lsep Φ (l.map f) = lsep (fun a => Φ (f a)) l := by
  induction l with
  | nil => rfl
  | cons a l ih => rw [List.map_cons, lsep_cons, lsep_cons, ih]

theorem lsep_zip {A : Type} (Φ Ψ : A → sProp 𝕄) (l : List A) : iprop(lsep Φ l ∗ lsep Ψ l) ⊢ lsep (fun a => iprop(Φ a ∗ Ψ a)) l := by
  induction l with
  | nil => show iprop(emp ∗ emp) ⊢ (iprop(emp) : sProp 𝕄); iintro -; iempintro
  | cons a l ih =>
    show iprop((Φ a ∗ lsep Φ l) ∗ (Ψ a ∗ lsep Ψ l)) ⊢ iprop((Φ a ∗ Ψ a) ∗ lsep (fun a => iprop(Φ a ∗ Ψ a)) l)
    iintro ⟨⟨H1, H2⟩, H3, H4⟩
    isplitl [H1 H3]
    · isplitl [H1] <;> iassumption
    iapply ih
    isplitl [H2] <;> iassumption

/-- The cells of slot 0. -/
def z0 : List (Fin 3 × Fin 16) := [(0, 0), (1, 0), (2, 0)]

/-- A family over a device's cells: the barrier's, slot 0's three, and each of the others by its own order. -/
theorem kix_lsep (Φ : KIx → sProp 𝕄) (l : List (Fin 16))
    (h : (none :: (z0.map some ++ (l.map (fun k => some (0, k)) ++ (sendOrder.map (fun k => some (1, k)) ++ sendOrder.map (fun k => some (2, k))))) : List KIx).Nodup)
    (hu : (none :: (z0.map some ++ (l.map (fun k => some (0, k)) ++ (sendOrder.map (fun k => some (1, k)) ++ sendOrder.map (fun k => some (2, k))))) : List KIx).toFinset = Finset.univ) :
    bigSep Finset.univ Φ ⊢ iprop(Φ none ∗ lsep (fun p => Φ (some p)) z0 ∗ lsep (fun k => Φ (some (0, k))) l
      ∗ lsep (fun k => Φ (some (1, k))) sendOrder ∗ lsep (fun k => Φ (some (2, k))) sendOrder) := by
  rw [← hu, lsep_bigSep Φ _ h, lsep_cons]
  iintro ⟨H0, H⟩
  isplitl [H0]; · iexact H0
  ihave H := (lsep_split Φ _ _) $$ H
  icases H with ⟨H1, H⟩
  ihave H := (lsep_split Φ _ _) $$ H
  icases H with ⟨H2, H⟩
  ihave H := (lsep_split Φ _ _) $$ H
  icases H with ⟨H3, H4⟩
  isplitl [H1]; · rw [← lsep_map some]; iexact H1
  isplitl [H2]; · rw [← lsep_map (fun k => some (0, k))]; iexact H2
  isplitl [H3]; · rw [← lsep_map (fun k => some (1, k))]; iexact H3
  rw [← lsep_map (fun k => some (2, k))]; iexact H4

/-! ## What a device starts from -/

/-- The order in which the ready signals are given. -/
def sgOrder : List (Fin 16) := [1, 2, 3, 4, 5, 6, 7, 8, 9, 10, 11, 12, 13, 14, 15]

/-- Which cell the duty is on that a device pays with the token of each index. -/
def payAt : Dev nD × KIx ≃ Dev nD × KIx where
  toFun
    | (c, none) => (c, none)
    | (c, some (0, k)) => (pl c k, some (0, ng k))
    | (c, some (1, k)) => (c, some (1, k))
    | (c, some (2, k)) => (pl c k, some (2, k))
  invFun
    | (c, none) => (c, none)
    | (c, some (0, k)) => (pl c k, some (0, ng k))
    | (c, some (1, k)) => (c, some (1, k))
    | (c, some (2, k)) => (pl c (ng k), some (2, k))
  left_inv
    | (c, none) => rfl
    | (c, some (0, k)) => by show (pl (pl c k) (ng k), some (0, ng (ng k))) = _; rw [pl_ng, ng_ng]
    | (c, some (1, k)) => rfl
    | (c, some (2, k)) => by show (pl (pl c k) (ng k), some (2, k)) = _; rw [pl_ng]
  right_inv
    | (c, none) => rfl
    | (c, some (0, k)) => by show (pl (pl c k) (ng k), some (0, ng (ng k))) = _; rw [pl_ng, ng_ng]
    | (c, some (1, k)) => rfl
    | (c, some (2, k)) => by show (pl (pl c (ng k)) k, some (2, k)) = _; rw [pl_ng']

/-- What a device holds alone: its place in each of its cells, and the tokens of the duties it pays. -/
def lin (c : Dev nD) : sProp 𝕄 :=
  iprop((bigSep Finset.univ fun ix : KIx => atPos ER (acell (c, ix)) 0 ∅ 0) ∗ (bigSep Finset.univ fun ix : KIx => dutyTok ER (acell (payAt (c, ix))) 0 ()))

def start (c : Dev nD) : sProp 𝕄 :=
  iprop((∃ K, records m ρ K ∗ lin c)
    ∗ (lsep (fun k => cred (tallyAt (readyCell c k) () 1)) sendOrder ∗ lsep (fun k => cred (tallyAt (recvCell c k) () N)) sendOrder) ∗ levAts L lv)

/-- What a device owes at the start: every ready signal, and every transfer. -/
def O₀ (c : Dev nD) : CellTallies nD τ sig Unit := Oready c sgOrder + Orecv c sendOrder

abbrev anyBuf (c : Dev nD) (b : Ref sig .tc) : sProp 𝕄 := iprop(∃ f : Buf (Elt F) ((c : Thread nD τ).loc b), ((c : Thread nD τ).loc b) ↦{fullShare} f)

def scratch (c : Dev nD) : sProp 𝕄 :=
  iprop(anyBuf (F := F) c cc0_scratch0 ∗ anyBuf (F := F) c cc0_scratch1 ∗ anyBuf (F := F) c cc0_scratch2 ∗ anyBuf (F := F) c cc0_scratch3 ∗ anyBuf (F := F) c cc0_scratch4)

def Φ₀ (c : Dev nD) : sProp 𝕄 := iprop(start m ρ c ∗ scratch (F := F) c)
def Φ₁ (c : Dev nD) : sProp 𝕄 := iprop(scratch (F := F) c ∗ (bigSep Finset.univ fun p : Fin 3 × Fin 16 => semVal (acell (c, some p)) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m ρ c
    | ⟨1, _⟩ => rwC m ρ c
    | ⟨2, _⟩ => rtC m ρ c
    | ⟨3, _⟩ => ewC m ρ c
    | ⟨4, _⟩ => swC m ρ c
    | ⟨5, _⟩ => outC m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = bufI c b (· = X) := by
  unfold owns bufI; simp only [Memref.view_whole, View.read_whole, View.set_whole]

/-! ## Into the first state, out of the last -/

theorem close_cell (K : Dev nD × KIx → ℕ) (c : Dev nD) (p : Fin 3 × Fin 16) (h : hasDuty (osem p) = false) :
    iprop(records m ρ K ∗ atPos ER (acell (c, some p)) 0 ∅ 0) ⊢ |={Set.univ}=> (zI c p : sProp 𝕄) := by
  iintro ⟨#HR, Hat⟩
  ihave #Hg := (rec_get m ρ K (c, some p)) $$ HR
  icases Hg with ⟨#Hg1, -⟩
  iapply (Rounds.cell_close ER (ringRd m ρ) (Set.mem_univ (K (c, some p))) (fun h => h) (R := 0) (fun r _ => duties_none m ρ c (osem p) h r))
  isplitr; · iexact Hg1
  iexact Hat

theorem close_slot0 (K : Dev nD × KIx → ℕ) (c : Dev nD) :
    iprop(records m ρ K ∗ lsep (fun p => atPos ER (acell (c, some p)) 0 ∅ 0) z0) ⊢ |={Set.univ}=> lsep (zI (F := F) c) z0 := by
  unfold z0
  simp only [lsep_cons, lsep_nil]
  iintro ⟨#HR, H0, H1, H2, -⟩
  imod (close_cell m ρ K c (0, 0) (by decide)) $$ [H0] with H0
  · isplitr; · iexact HR
    iexact H0
  imod (close_cell m ρ K c (1, 0) (by decide)) $$ [H1] with H1
  · isplitr; · iexact HR
    iexact H1
  imod (close_cell m ρ K c (2, 0) (by decide)) $$ [H2] with H2
  · isplitr; · iexact HR
    iexact H2
  imodintro
  isplitl [H0]; · iexact H0
  isplitl [H1]; · iexact H1
  isplitl [H2]; · iexact H2
  iempintro

/-- A device's own slots: slot 0, and the others in the order they are handed over. -/
theorem slots_in (c : Dev nD) : anyBuf (F := F) c cc0_scratch4 ⊢ iprop(lsep (slI (F := F) c) [0] ∗ lsep (fun k => iprop(∃ f, slotPts (F := F) c (ng k) f)) sgOrder) := by
  have hs (k : Fin 16) (f : Buf (Elt F) (gaLoc c)) : (gaLoc c ↦[slotSet c k]{fullShare} f : sProp 𝕄) ⊢ slI (F := F) c k := by
    unfold slI slotPts; iintro H; iexists f; iexact H
  iintro ⟨%f, H⟩
  ihave H := ((slots_whole c ([0] ++ sgOrder.map ng) (by decide) (by decide) f).1) $$ H
  ihave H := (lsep_split _ [0] (sgOrder.map ng)) $$ H
  icases H with ⟨H0, H1⟩
  isplitl [H0]
  · iapply (lsep_mono (fun k => hs k f) [0]) $$ H0
  · ihave H1 := (Entails.of_eq (lsep_map ng (fun k => (gaLoc c ↦[slotSet c k]{fullShare} f : sProp 𝕄)) sgOrder)) $$ H1
    iapply (lsep_mono (fun k => hs (ng k) f) sgOrder) $$ H1

theorem chunks_in (c : Dev nD) : anyBuf (F := F) c cc0_scratch3 ⊢ lsep (chI (F := F) c) [1, 2, 0, 3] := by
  have hs (q : Fin 4) (f : Buf (Elt F) (sbLoc c)) : (sbLoc c ↦[chunkSet c q]{fullShare} f : sProp 𝕄) ⊢ chI (F := F) c q := by
    unfold chI chunkPts; iintro H; iexists f; iexact H
  iintro ⟨%f, H⟩
  ihave H := ((chunks_whole c [1, 2, 0, 3] (by decide) (by decide) f).1) $$ H
  iapply (lsep_mono (fun q => hs q f) [1, 2, 0, 3]) $$ H

theorem slots_out (c : Dev nD) : lsep (gtI m ρ c) gtEnd ⊢ anyBuf (F := F) c cc0_scratch4 := by
  iintro H
  iexists gaC m ρ c
  iapply ((slots_whole c gtEnd (by decide) (by decide) (gaC m ρ c)).2)
  iexact H

theorem rows_out (c : Dev nD) : lsep (rwI m ρ c) rwEnd ⊢ anyBuf (F := F) c cc0_scratch3 := by
  iintro H
  iexists sbC m ρ c
  iapply ((rows_whole c rwEnd (by decide) (by decide) (sbC m ρ c)).2)
  iexact H

theorem buf_in (c : Dev nD) (b : Ref sig .tc) (P : b.ty.Contents (Elt F) → Prop) (h : ∀ f, P f) : anyBuf (F := F) c b ⊢ bufI c b P := by
  unfold bufI
  iintro ⟨%f, H⟩
  iexists f
  isplitr; · ipureintro; exact h f
  iexact H
theorem buf_out (c : Dev nD) (b : Ref sig .tc) (P : b.ty.Contents (Elt F) → Prop) : bufI c b P ⊢ anyBuf (F := F) c b := by
  unfold bufI
  iintro ⟨%f, -, H⟩
  iexists f
  iexact H

theorem sems_out (c : Dev nD) : lsep (zI (F := F) c) (zEnd z0) ⊢ bigSep Finset.univ fun p : Fin 3 × Fin 16 => semVal (acell (c, some p)) 0 := by
  rw [show (Finset.univ : Finset (Fin 3 × Fin 16)) = (zEnd z0).toFinset from by decide +kernel, lsep_bigSep _ _ (by decide +kernel)]; exact BI.Entails.refl _

/-! ## The body's run -/

variable {K : Dev nD × KIx → ℕ} {c : Dev nD} {z : List (Fin 3 × Fin 16)}
    {Pc : (cc0_scratch0 : Ref sig .tc).ty.Contents (Elt F) → Prop} {Po : (cc0_stg5_0 : Ref sig .tc).ty.Contents (Elt F) → Prop}

theorem hz2 : (![0, 0] : Fin 2 → Nat) = fun _ => 0 := funext fun a => by fin_cases a <;> rfl

theorem body_run {Q : PUnit → sProp 𝕄} (h : StLast m ρ K c z (· = outC m ρ c) ⊢ Q ⟨⟩) :
    StFirst m ρ K c z Pc Po ⊢ WP c (onBufs (cc0_body (F := F))) Q := by
  rw [cc0_body_eq_skeleton]; unfold onBufs cc0_body_skel
  refine bind_intro (part46 m ρ ?_)
  simp only [Prog.lift, Prog.bind_op, Prog.bind_ret, Prog.pure_eq_ret]
  refine load_out m ρ (fun _ _ => ?_)
  refine store_out m ρ (· = outC m ρ c) (fun f _ => Memref.write_access_unit_zero_univ (Elt F) cc0_stg5_0 hz2 _ f _) ?_
  exact ret_intro h

def bodyPre (c : Dev nD) : sProp 𝕄 :=
  iprop(Φ₀ m ρ c ∗ (dats m ρ 0 c).owesAt () t0_0.castSucc
    ∗ (∃ d, bufI c cc0_stg0_0 (· = (dats m ρ 0 c).before (0 : Fin 6) t0_0 d))
    ∗ (∃ d, bufI c cc0_stg1_0 (· = (dats m ρ 0 c).before (1 : Fin 6) t0_0 d))
    ∗ (∃ d, bufI c cc0_stg2_0 (· = (dats m ρ 0 c).before (2 : Fin 6) t0_0 d))
    ∗ (∃ d, bufI c cc0_stg3_0 (· = (dats m ρ 0 c).before (3 : Fin 6) t0_0 d))
    ∗ (∃ d, bufI c cc0_stg4_0 (· = (dats m ρ 0 c).before (4 : Fin 6) t0_0 d))
    ∗ (∃ d, bufI c cc0_stg5_0 (· = (dats m ρ 0 c).before (5 : Fin 6) t0_0 d)))
def bodyPost (c : Dev nD) : sProp 𝕄 :=
  iprop(Φ₁ (F := F) c ∗ (dats m ρ 0 c).owesAt () t0_0.succ
    ∗ bufI c cc0_stg0_0 (· = xC m ρ c) ∗ bufI c cc0_stg1_0 (· = rwC m ρ c) ∗ bufI c cc0_stg2_0 (· = rtC m ρ c)
    ∗ bufI c cc0_stg3_0 (· = ewC m ρ c) ∗ bufI c cc0_stg4_0 (· = swC m ρ c) ∗ bufI c cc0_stg5_0 (· = outC m ρ c))

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem before_0 (c : Dev nD) (d) : (dats m ρ 0 c).before (0 : Fin 6) t0_0 d = xC m ρ c := by unfold Dat.before; rw [if_pos (fetch0_0 t0_0)]; rfl
theorem before_1 (c : Dev nD) (d) : (dats m ρ 0 c).before (1 : Fin 6) t0_0 d = rwC m ρ c := by unfold Dat.before; rw [if_pos (fetch0_1 t0_0)]; rfl
theorem before_2 (c : Dev nD) (d) : (dats m ρ 0 c).before (2 : Fin 6) t0_0 d = rtC m ρ c := by unfold Dat.before; rw [if_pos (fetch0_2 t0_0)]; rfl
theorem before_3 (c : Dev nD) (d) : (dats m ρ 0 c).before (3 : Fin 6) t0_0 d = ewC m ρ c := by unfold Dat.before; rw [if_pos (fetch0_3 t0_0)]; rfl
theorem before_4 (c : Dev nD) (d) : (dats m ρ 0 c).before (4 : Fin 6) t0_0 d = swC m ρ c := by unfold Dat.before; rw [if_pos (fetch0_4 t0_0)]; rfl

theorem last_out (K : Dev nD × KIx → ℕ) (c : Dev nD) : StLast m ρ K c z0 (· = outC m ρ c) ⊢ bodyPost m ρ c := by
  unfold StLast St Gh Me bodyPost Φ₁ scratch Dat.owesAt Pipeline.owesWithin
  rw [show (dats m ρ 0 c).owed t0_0.succ = 0 from rfl, show Oready c [] + Orecv c [] = 0 from add_zero 0]
  iintro ⟨⟨-, -, ⟨%W, HO⟩, -, -, -, -, -, -, Hz, Hbar⟩, Hgt, -, Hrw, -, H0, H1, H2, H3, H4, Hc, He, Hx, Ho⟩
  isplitl [Hz Hbar Hgt Hrw Hc He Hx]
  · isplitl [Hgt Hrw Hc He Hx]
    · isplitl [Hc]; · iapply (buf_out c cc0_scratch0 _); iexact Hc
      isplitl [Hx]; · iapply (buf_out c cc0_scratch1 _); iexact Hx
      isplitl [He]; · iapply (buf_out c cc0_scratch2 _); iexact He
      isplitl [Hrw]; · iapply (rows_out m ρ c); iexact Hrw
      iapply (slots_out m ρ c); iexact Hgt
    isplitl [Hz]; · iapply (sems_out (F := F) c); iexact Hz
    unfold barI; iexact Hbar
  isplitl [HO]
  · iexists W
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  iexact Ho

theorem first_in (c : Dev nD) : bodyPre m ρ c ⊢ |={Set.univ}=> iprop(∃ K, StFirst m ρ K c z0 (fun _ => True) (fun _ => True)) := by
  unfold bodyPre Φ₀ start lin scratch Dat.owesAt Pipeline.owesWithin
  rw [show (dats m ρ 0 c).owed t0_0.castSucc = O₀ c from rfl]
  simp only [before_0, before_1, before_2, before_3, before_4]
  iintro ⟨⟨⟨⟨%K, #HR, Hat, Htk⟩, ⟨Hcr, Hcv⟩, #HL⟩, Hs0, Hs1, Hs2, Hs3, Hs4⟩, ⟨%W, -, HO⟩, ⟨%d0, H0⟩, ⟨%d1, H1⟩, ⟨%d2, H2⟩, ⟨%d3, H3⟩, ⟨%d4, H4⟩, ⟨%d5, H5⟩⟩
  ihave Hat := (kix_lsep (fun ix : KIx => (atPos ER (acell (c, ix)) 0 ∅ 0 : sProp 𝕄)) sendOrder (by decide +kernel) (by decide +kernel)) $$ Hat
  icases Hat with ⟨HaB, HaZ, HaR, HaS, HaV⟩
  ihave Htk := (kix_lsep (fun ix : KIx => (dutyTok ER (acell (payAt (c, ix))) 0 () : sProp 𝕄)) sgOrder (by decide +kernel) (by decide +kernel)) $$ Htk
  icases Htk with ⟨HtB, -, HtR, HtS, HtV⟩
  imod (close_slot0 m ρ K c) $$ [HaZ] with Hz
  · isplitr; · iexact HR
    iexact HaZ
  imodintro
  iexists K
  ihave Hsl := (slots_in (F := F) c) $$ Hs4
  icases Hsl with ⟨Hsl0, Hsl⟩
  unfold StFirst St Gh Me
  isplitl [HO HaB HaR HaS HaV HtB HtR HtS HtV Hcr Hcv Hz Hsl]
  · isplitr; · iexact HR
    isplitr; · iexact HL
    isplitl [HO]; · iexists W; iexact HO
    isplitl [HtR Hsl]
    · iapply (lsep_zip (fun k => (dutyTok ER (readyCell (pl c k) (ng k)) 0 () : sProp 𝕄)) (fun k => iprop(∃ f, slotPts (F := F) c (ng k) f)) sgOrder)
      isplitl [HtR]; · iexact HtR
      iexact Hsl
    isplitl [HaR Hcr]
    · iapply (lsep_zip (fun k => (atPos ER (readyCell c k) 0 ∅ 0 : sProp 𝕄)) (fun k => cred (tallyAt (readyCell c k) () 1)) sendOrder)
      isplitl [HaR]; · iexact HaR
      iexact Hcr
    isplitr; · unfold lsep; iempintro
    isplitl [HaS HtS HtV]
    · iapply (lsep_zip (fun k => (atPos ER (sendCell c k) 0 ∅ 0 : sProp 𝕄)) (fun k => iprop(dutyTok ER (sendCell c k) 0 () ∗ dutyTok ER (recvCell (pl c k) k) 0 ())) sendOrder)
      isplitl [HaS]; · iexact HaS
      iapply (lsep_zip (fun k => (dutyTok ER (sendCell c k) 0 () : sProp 𝕄)) (fun k => dutyTok ER (recvCell (pl c k) k) 0 ()) sendOrder)
      isplitl [HtS]; · iexact HtS
      iexact HtV
    isplitr; · unfold lsep; iempintro
    isplitl [HaV Hcv]
    · iapply (lsep_zip (fun k => (atPos ER (recvCell c k) 0 ∅ 0 : sProp 𝕄)) (fun k => cred (tallyAt (recvCell c k) () N)) sendOrder)
      isplitl [HaV]; · iexact HaV
      iexact Hcv
    isplitl [Hz]; · iexact Hz
    unfold barI
    isplitl [HtB]; · iexact HtB
    iexact HaB
  isplitr; · unfold lsep; iempintro
  isplitl [Hsl0]; · iexact Hsl0
  isplitr; · unfold lsep; iempintro
  isplitl [Hs3]; · iapply (chunks_in (F := F) c); iexact Hs3
  isplitl [H0]; · iexact H0
  isplitl [H1]; · iexact H1
  isplitl [H2]; · iexact H2
  isplitl [H3]; · iexact H3
  isplitl [H4]; · iexact H4
  isplitl [Hs0]; · iapply (buf_in c cc0_scratch0 _ (fun _ => trivial)); iexact Hs0
  isplitl [Hs2]; · iapply (buf_in c cc0_scratch2 _ (fun f i h => absurd h (Nat.not_lt_zero _))); iexact Hs2
  isplitl [Hs1]; · iapply (buf_in c cc0_scratch1 _ (fun f i h => absurd h (by omega))); iexact Hs1
  iapply (buf_in c cc0_stg5_0 _ (fun _ => trivial))
  iapply (buf_out c cc0_stg5_0 _)
  iexact H5

theorem sound_body (c : Dev nD) : bodyPre m ρ c ⊢ WP c (onBufs (cc0_body (F := F))) (fun _ => bodyPost m ρ c) := by
  iintro H
  imod (first_in m ρ c) $$ H with H
  icases H with ⟨%K, H⟩
  iapply (body_run m ρ (last_out m ρ K c))
  iexact H

set_option maxRecDepth 100000 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole_eq]
  show bodyPre m ρ c ⊢ wp frame (wpE (defs₀ (F := F)) 𝒱₀ c none) Set.univ (bodyAt0 t0_0) (fun _ => bodyPost m ρ c)
  exact sound_body m ρ c

end Cert.Moe

end
-- ==== Proof.Launch.lean ====
/-
# The launch

The protocol's cells and tokens allotted to the devices, what each device is owed counted, and the run of the whole
program.
-/
module

public import proofs.«01_k».proof.Proof.Whole
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide +kernel
theorem share_eq (c : Dev nD) (w : Fin cfg0.W) : (dats m ρ 0 c).share w = fullShare := by unfold Dat.share; split <;> rfl

theorem asem_injective : Function.Injective asem := by
  have h : ∀ a b : KIx, asem a = asem b → a = b := by decide +kernel
  exact fun a b => h a b

theorem acell_injective : Function.Injective acell := by
  rintro ⟨c, k⟩ ⟨c', k'⟩ h
  have h1 : c = c' := congrArg (fun g : GSem nD τ sig => g.1.1) h
  have h2 : asem k = asem k' := congrArg Prod.snd h
  rw [h1, asem_injective h2]

def ringCells : Finset (GSem nD τ sig) := Finset.univ.map ⟨acell, acell_injective⟩
def ringToks : Finset (GSem nD τ sig × ℕ × Unit) :=
  Finset.univ.map ⟨fun ck : Dev nD × KIx => (acell ck, 0, ()), fun _ _ h => acell_injective (congrArg Prod.fst h)⟩

def u₀ : UU := (initOf (Pipeline.cells cfgs cellOf_inj) (Pipeline.launchToks cfgs cellOf_inj), initOf ringCells ringToks)

def G (c : Dev nD) : sProp 𝕄 :=
  iprop((bigSep Finset.univ fun k : KIx => roundState ER (ringRd m ρ) (acell (c, k)) 0)
    ∗ (bigSep Finset.univ fun k : KIx => iprop(atPos ER (acell (c, k)) 0 ∅ 0 ∗ reached ER (acell (c, k)) 0))
    ∗ bigSep Finset.univ fun k : KIx => dutyTok ER (acell (c, k)) 0 ())
def G' (c : Dev nD) : sProp 𝕄 := iprop(∃ K, records m ρ K ∗ lin c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KIx => Φ (acell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : KIx => dutyTok ER (acell (c, k)) 0 () := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barSem] (by decide) (by decide)]; rfl

theorem bigSep_kix (Φ : KIx → sProp 𝕄) : bigSep Finset.univ Φ = iprop(Φ none ∗ bigSep Finset.univ fun p => Φ (some p)) := by
  have h : (Finset.univ : Finset KIx) = insert none (Finset.univ.map Function.Embedding.some) := by decide +kernel
  rw [h, bigSep_insert (by decide +kernel), bigSep_map]; rfl

theorem ownSems0_eq (c : Dev nD) : (Pipeline.ownSems0 (Ix := Unit) (Name := ℕ) (U := UU) (Lvl := ℕ) (Val := Elt F) (τ := τ) osem c : sProp 𝕄)
    = bigSep Finset.univ fun p : Fin 3 × Fin 16 => semVal (acell (c, some p)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KIx => semVal (acell (c, k)) 0 : sProp 𝕄) := by
  rw [bigSep_kix, unscopedSems0_eq, ownSems0_eq]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KIx => iprop(∃ κ : ℕ, cellInv ER (ringRd m ρ) κ (acell (c, k))))
          ∗ (bigSep Finset.univ fun k : KIx => iprop(atPos ER (acell (c, k)) 0 ∅ 0 ∗ reached ER (acell (c, k)) 0))
          ∗ bigSep Finset.univ fun k : KIx => dutyTok ER (acell (c, k)) 0 ()) := by
  unfold G
  iintro ⟨Hos, Hus, Hst, Hat, Htok⟩
  ihave Hv := (sems0_eq (F := F) c) $$ [Hos Hus]
  · isplitl [Hos] <;> iassumption
  imod (show iprop((bigSep Finset.univ fun k : KIx => semVal (acell (c, k)) 0) ∗ bigSep Finset.univ fun k : KIx => roundState ER (ringRd m ρ) (acell (c, k)) 0)
      ⊢ (|={Set.univ}=> bigSep Finset.univ fun k : KIx => iprop(∃ κ : ℕ, cellInv ER (ringRd m ρ) κ (acell (c, k))) : sProp 𝕄) from by
        rw [← bigSep_sep']
        exact (bigSep_mono fun k _ => (Rounds.body_intro ER (ringRd m ρ) (acell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay their duties. -/
theorem toks_around : (bigSep Finset.univ fun c : Dev nD => bigSep Finset.univ fun k : KIx => (dutyTok ER (acell (c, k)) 0 () : sProp 𝕄))
    ⊢ bigSep Finset.univ fun c : Dev nD => bigSep Finset.univ fun k : KIx => dutyTok ER (acell (payAt (c, k))) 0 () := by
  rw [← bigSep_univ_prod (fun ck : Dev nD × KIx => (dutyTok ER (acell ck) 0 () : sProp 𝕄)),
    ← bigSep_univ_prod (fun ck : Dev nD × KIx => (dutyTok ER (acell (payAt ck)) 0 () : sProp 𝕄)),
    bigSep_univ_equiv payAt (fun ck : Dev nD × KIx => (dutyTok ER (acell ck) 0 () : sProp 𝕄))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × KIx → ℕ) (c : Dev nD) : iprop(records m ρ K ∗ lin c) ⊢ G' m ρ c := by
  unfold G'; iintro H; iexists K; iexact H

theorem regroup :
    (bigSep Finset.univ fun c : Dev nD => iprop((bigSep Finset.univ fun k : KIx => iprop(∃ κ : ℕ, cellInv ER (ringRd m ρ) κ (acell (c, k))))
          ∗ (bigSep Finset.univ fun k : KIx => iprop(atPos ER (acell (c, k)) 0 ∅ 0 ∗ reached ER (acell (c, k)) 0))
          ∗ bigSep Finset.univ fun k : KIx => dutyTok ER (acell (c, k)) 0 ()) : sProp 𝕄)
      ⊢ bigSep Finset.univ (G' m ρ) := by
  rw [bigSep_sep', bigSep_sep', ← bigSep_univ_prod (fun ck : Dev nD × KIx => iprop(∃ κ : ℕ, cellInv ER (ringRd m ρ) κ (acell ck))),
    bigSep_congr (s := Finset.univ) (fun (c : Dev nD) _ => bigSep_sep' Finset.univ (fun k : KIx => (atPos ER (acell (c, k)) 0 ∅ 0 : sProp 𝕄)) (fun k => reached ER (acell (c, k)) 0)),
    bigSep_sep', ← bigSep_univ_prod (fun ck : Dev nD × KIx => (reached ER (acell ck) 0 : sProp 𝕄))]
  iintro ⟨HI, ⟨Hat, #HR⟩, Htok⟩
  ihave HK := (BI.bigSep_exists_pi Finset.univ (fun (ck : Dev nD × KIx) (κ : ℕ) => (cellInv ER (ringRd m ρ) κ (acell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; rw [bigSep_sep']; isplitl; · iexact HI
    iexact HR
  · unfold lin; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem ready_eq_iff {a b : Dev nD} {j k : Fin 16} : Iff (readyCell a j = readyCell b k) (a = b ∧ j = k) :=
  ⟨fun h => by have := acell_injective (a₁ := (a, some (0, j))) (a₂ := (b, some (0, k))) h; cases this; exact ⟨rfl, rfl⟩, fun ⟨h, h'⟩ => by rw [h, h']⟩
theorem recv_eq_iff {a b : Dev nD} {j k : Fin 16} : Iff (recvCell a j = recvCell b k) (a = b ∧ j = k) :=
  ⟨fun h => by have := acell_injective (a₁ := (a, some (2, j))) (a₂ := (b, some (2, k))) h; cases this; exact ⟨rfl, rfl⟩, fun ⟨h, h'⟩ => by rw [h, h']⟩

theorem Oready_at (d c : Dev nD) (k : Fin 16) (l : List (Fin 16)) :
    Oready d l (readyCell c k) () = (l.map fun j => if c = pl d j ∧ k = ng j then 1 else 0).sum := by
  induction l with
  | nil => rfl
  | cons j l ih =>
    unfold Oready
    rw [Pi.add_apply, Finsupp.add_apply, ih, List.map_cons, List.sum_cons, tallyAt_apply, Nat.add_comm]
    congr 1
    by_cases h : c = pl d j ∧ k = ng j
    · rw [if_pos h, if_pos ⟨ready_eq_iff.mpr h, rfl⟩]
    · rw [if_neg h, if_neg fun h' => h (ready_eq_iff.mp h'.1)]
theorem Orecv_at (d c : Dev nD) (k : Fin 16) (l : List (Fin 16)) :
    Orecv d l (recvCell c k) () = N * (l.map fun j => if c = pl d j ∧ k = j then 1 else 0).sum := by
  induction l with
  | nil => rfl
  | cons j l ih =>
    unfold Orecv
    rw [Pi.add_apply, Finsupp.add_apply, ih, List.map_cons, List.sum_cons, tallyAt_apply, Nat.mul_add, Nat.add_comm]
    congr 1
    by_cases h : c = pl d j ∧ k = j
    · rw [if_pos h, if_pos ⟨recv_eq_iff.mpr h, rfl⟩, Nat.mul_one]
    · rw [if_neg h, if_neg fun h' => h (recv_eq_iff.mp h'.1), Nat.mul_zero]

theorem ready_ne_recv (c d : Dev nD) (j k : Fin 16) : readyCell c j ≠ recvCell d k := fun h => by cases congrArg Prod.snd h

theorem owed_ready (d c : Dev nD) (k : Fin 16) : O₀ d (readyCell c k) () = (sgOrder.map fun j => if c = pl d j ∧ k = ng j then 1 else 0).sum := by
  unfold O₀
  rw [Pi.add_apply, Finsupp.add_apply, Oready_at]
  have h : Orecv d sendOrder (readyCell c k) () = 0 := Nat.eq_zero_of_not_pos fun hp => by
    obtain ⟨_, _, h⟩ := Orecv_pos hp; exact ready_ne_recv _ _ _ _ h
  rw [h, Nat.add_zero]
theorem owed_recv (d c : Dev nD) (k : Fin 16) : O₀ d (recvCell c k) () = N * (sendOrder.map fun j => if c = pl d j ∧ k = j then 1 else 0).sum := by
  unfold O₀
  rw [Pi.add_apply, Finsupp.add_apply, Orecv_at]
  have h : Oready d sgOrder (recvCell c k) () = 0 := Nat.eq_zero_of_not_pos fun hp => by
    obtain ⟨_, _, h⟩ := Oready_pos hp; exact ready_ne_recv _ _ _ _ h.symm
  rw [h, Nat.zero_add]

theorem one_ready : ∀ (c : Dev nD) (k : Fin 16), k ≠ 0 → (∑ d : Dev nD, (sgOrder.map fun j => if c = pl d j ∧ k = ng j then 1 else 0).sum) = 1 := by decide +kernel
theorem one_recv : ∀ (c : Dev nD) (k : Fin 16), k ≠ 0 → (∑ d : Dev nD, (sendOrder.map fun j => if c = pl d j ∧ k = j then 1 else 0).sum) = 1 := by decide +kernel

theorem launch_ready (c : Dev nD) (k : Fin 16) (hk : k ≠ 0) :
    tallyOn (readyCell c k) (launchCredit (Pipeline.owing O₀) 0 (readyCell c k)) = (tallyAt (readyCell c k) () 1 : CellTallies nD τ sig Unit) := by
  unfold tallyAt; refine congrArg _ (Finsupp.ext fun u => ?_); cases u
  rw [Pipeline.launchCredit_owing, Finsupp.single_eq_same, Finset.sum_congr rfl fun d _ => owed_ready d c k, one_ready c k hk]
theorem launch_recv (c : Dev nD) (k : Fin 16) (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, ← Finset.mul_sum, one_recv c k hk, Nat.mul_one]

theorem lsep_congr {A : Type} {Φ Ψ : A → sProp 𝕄} {l : List A} (h : ∀ a ∈ l, Φ a = Ψ a) : lsep Φ l = lsep Ψ l := by
  induction l with
  | nil => rfl
  | cons a l ih => rw [lsep_cons, lsep_cons, h a (List.mem_cons_self ..), ih fun b hb => h b (List.mem_cons_of_mem _ hb)]

theorem creds (c : Dev nD) :
    (Pipeline.launchCred O₀ c : sProp 𝕄)
      ⊢ iprop(lsep (fun k => cred (tallyAt (readyCell c k) () 1)) sendOrder ∗ lsep (fun k => cred (tallyAt (recvCell c k) () N)) sendOrder) := by
  unfold Pipeline.launchCred
  have hne : ∀ k ∈ sendOrder, k ≠ 0 := by decide
  have hnd : (sendOrder.map (fun k => SemLoc.reg (readySem k)) ++ sendOrder.map (fun k => SemLoc.dma (recvSem k)) : List (SemLoc sig)).Nodup := by decide +kernel
  refine (bigSep_subset (Finset.subset_univ (sendOrder.map (fun k => SemLoc.reg (readySem k)) ++ sendOrder.map (fun k => SemLoc.dma (recvSem k)) : List (SemLoc sig)).toFinset)).trans ?_
  rw [lsep_bigSep _ _ hnd]
  refine (lsep_split _ _ _).trans ?_
  rw [lsep_map (fun k => SemLoc.reg (readySem k)), lsep_map (fun k => SemLoc.dma (recvSem k))]
  exact Entails.of_eq (congrArg₂ (fun a b : sProp 𝕄 => iprop(a ∗ b)) (lsep_congr fun k hk => congrArg cred (launch_ready c k (hne k hk))) (lsep_congr fun k hk => congrArg cred (launch_recv c k (hne k hk))))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch anyBuf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq, ownSems0_eq]
  unfold Φ₁ scratch anyBuf
  iintro ⟨Hr, Hz, HzB⟩
  isplitl [HzB]; · iexact HzB
  isplitl [Hz]; · iexact Hz
  iexact Hr

theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · exact mayWait_low c _ hq sgOrder sendOrder
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair run of the program on the sixteen devices
    ends, with each device's result array at the computed contents, its operands unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_arg (c : Dev nD) (w : Fin 6) (h : w ≠ 5) : finalA m ρ c w = (s₀ m ρ).mem ((cfg0.win w).arr.view.loc (c : Thread nD τ)) :=
  (dats (F := F) m ρ 0 c).arrAt_in w (by revert h; revert w; decide) _

end Cert.Moe

end
-- ==== Proof.Frames.lean ====
/-
# The frames

Both kernels' frames from the one run.
-/
module

public import proofs.«01_k».proof.Proof.Launch
public import proofs.«01_k».proof.Proof.Gen.Kernel
public import proofs.«01_k».proof.Proof.Gen.ReferenceIdeal.Run
public import proofs.«01_k».proof.Defs

@[expose] public section

noncomputable section

namespace Cert.Moe

open Cert.KernelIdeal Cert.KernelIdeal.Gen Cert.Kernel.Gen Cert.ReferenceIdeal.Gen
open Idealize.ShloMosaic Idealize.ShloMosaic.TcCoe Idealize.SL.Sem

variable {F : FTy → Type} [FloatOps F]

/-- The arguments are unchanged and every counter is zero. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c (0 : Fin 6)).trans (finalA_arg m ρ c 0 (by decide)), (h.1 c (1 : Fin 6)).trans (finalA_arg m ρ c 1 (by decide)),
        (h.1 c (2 : Fin 6)).trans (finalA_arg m ρ c 2 (by decide)), (h.1 c (3 : Fin 6)).trans (finalA_arg m ρ c 3 (by decide)),
        (h.1 c (4 : Fin 6)).trans (finalA_arg m ρ c 4 (by decide))⟩, h.2⟩) (run_main m ρ)

theorem frame_KernelIdeal : Cert.quiescent_KernelIdeal := fun m ρ _ => frame_run (F := Ideal) m ρ

/-- The two kernels' bodies are the same program. -/
theorem defs₀_same : @Cert.Kernel.defs₀ F _ _ = @Cert.KernelIdeal.defs₀ F _ _ := by
  funext p
  cases p
  · funext l a
    match l, a with
    | 0, (t, s) => rfl
  · rfl
  · rfl

/-- So are the tables that their launches run under. -/
theorem defs_same : @Cert.Kernel.defs F _ _ = @Cert.KernelIdeal.defs F _ _ :=
  congrArg (Pipeline.defs (Cert.KernelIdeal.pcfgs (F := F))) defs₀_same

/-- The kernel as printed is the same program, read at the bits. -/
theorem frame_Kernel : Cert.quiescent_Kernel := fun m ρ _ => by
  have h := frame_run (F := Bits) m ρ
  rw [← defs_same] at h
  exact h

/-- The reference declares no semaphore, so its counters are trivially zero. -/
theorem reference_counters (f : GSem Cert.ReferenceIdeal.nD Cert.ReferenceIdeal.τ Cert.ReferenceIdeal.sig → Int) : f = fun _ => 0 := by
  funext g
  rcases g with ⟨_, s⟩
  cases s with
  | reg s => exact Fin.elim0 s
  | dma s => exact Fin.elim0 s

/-- The reference's arguments are unchanged and its counters are zero. -/
theorem frame_ReferenceIdeal : Cert.quiescent_ReferenceIdeal := fun m ρ _ =>
  (θ_run (Cert.ReferenceIdeal.defs (F := Ideal)) _ _).mono (fun _ h => ⟨fun c => (h c).2, reference_counters _⟩)
    (Cert.ReferenceIdeal.Value.run (F := Ideal) m ρ)

end Cert.Moe

end
-- ==== Proof.Equation.lean ====
/-
# The value equation

For finite tokens and finite router weights, the kernel's result on each device is that device's block of rows of the
reference's result.
-/
module

public import proofs.«01_k».proof.Proof.KernelValue
public import proofs.«01_k».proof.Proof.RefValue
public import proofs.«01_k».proof.Proof.Frames
public import Idealize.ShloMosaic.Lib.ReduceAll

@[expose] public section

noncomputable section

namespace Cert.Moe

open Cert.KernelIdeal Cert.KernelIdeal.Gen Cert.ReferenceIdeal.Gen Cert.Moe.At
open Idealize.ShloMosaic Idealize.ShloMosaic.TcCoe Idealize.SL.Sem

/-! ## The precondition, read -/

theorem pre_facts : Cert.Pre_scores_finite_KernelIdeal.Facts :=
  ⟨by decide, by decide, by decide, by decide, by decide⟩

theorem pre_facts_reference : Cert.Pre_scores_finite_ReferenceIdeal.Facts :=
  ⟨by decide, by decide, by decide, by decide, by decide⟩

attribute [local instance] pre_facts pre_facts_reference

theorem infinity : Ideal.ofBits FTy.f32 0x7F800000#32 = (⊤ : EReal) := by
  simp [Ideal.ofBits, Ideal.ieee]

/-- What one element's comparison says. -/
theorem finite_of_less {x : EReal} (h : FloatOps.cmpf (F := Ideal) (φ := .f32) .olt (max x (-x) : EReal) (Ideal.ofBits FTy.f32 0x7F800000#32) = 1#1) : Real? x := by
  rw [infinity] at h
  refine real_of_abs ?_
  by_contra hn
  have h' : BitVec.ofBool (decide (max x (-x) < ⊤)) = 1#1 := h
  rw [decide_eq_false hn] at h'
  exact absurd h' (by decide)

/-- The precondition's function is 1 only of finite tokens and finite router weights. -/
theorem finite_of_pre (x : FVec Ideal S512x256 .f32) (rw : FVec Ideal S256x64 .f32) (rt : IVec S512x1 32) (ew : FVec Ideal S4x256x512 .f32)
    (sw : FVec Ideal S256x512 .f32) (h : Cert.Pre_scores_finite_KernelIdeal.fn (F := Ideal) x rw rt ew sw = fun _ => 1#1) :
    (∀ i, Real? (x i)) ∧ ∀ i, Real? (rw i) := by
  haveI : Subsingleton (Cert.Pre_scores_finite_KernelIdeal.S_).Idx := ⟨fun a b => funext fun k => k.elim0⟩
  have h0 := congrFun h (fun k => k.elim0)
  obtain ⟨h1, h2⟩ := IntOp.andi_eq_one.mp h0
  exact ⟨fun i => finite_of_less (Host.reduce_andi_all _ _ _ _ _ h1 i), fun i => finite_of_less (Host.reduce_andi_all _ _ _ _ _ h2 i)⟩

/-! ## The kernel's result is the reference's -/

theorem score_real {x : (⟨2, ![512, 256]⟩ : Shape).Idx → EReal} {rw : (⟨2, ![256, 64]⟩ : Shape).Idx → EReal} (hx : ∀ i, Real? (x i)) (hrw : ∀ i, Real? (rw i))
    (i : Fin 512) (g : Fin 64) : Real? (score x rw i g) :=
  real_sum _ fun d => real_mul (hx _) (hrw _)

section Values

variable (m : (ℓ : Loc nD τ sig) → Buf (Elt Ideal) ℓ) (ρ : Dev nD → PrngReg)
variable (x : FVec Ideal S512x256 .f32) (rw : FVec Ideal S256x64 .f32) (rt : IVec S512x1 32) (ew : FVec Ideal ⟨3, ![64, 256, 512]⟩ .f32) (sw : FVec Ideal S256x512 .f32)

/-- Every device holds the whole of the operands, and of the experts its own four. -/
structure Holds : Prop where
  x : ∀ c, xF m ρ c = x
  rw : ∀ c, rwF m ρ c = rw
  rt : ∀ c, rtF m ρ c = rt
  ew : ∀ c, ewF m ρ c = Layout.block ⟨3, ![4, 256, 512]⟩ ⟨3, ![64, 256, 512]⟩ 0 16 c ew
  sw : ∀ c, swF m ρ c = sw

variable {m ρ x rw rt ew sw}

theorem expert_at (H : Holds m ρ x rw rt ew sw) (c : Dev nD) (e : Fin 4) (d : Fin 256) (h : Fin 512) :
    ewF m ρ c (ix3 e d h) = ew (ix3 (expertOf c e) d h) := by
  rw [H.ew c]
  refine congrArg ew (funext fun a => Fin.ext ?_)
  match a with
  | ⟨0, _⟩ => rfl
  | ⟨1, _⟩ => rfl
  | ⟨2, _⟩ => rfl

/-- What expert `g` adds to token `i`. -/
def term (x : FVec Ideal S512x256 .f32) (rw : FVec Ideal S256x64 .f32) (rt : IVec S512x1 32) (ew : FVec Ideal ⟨3, ![64, 256, 512]⟩ .f32)
    (i h : Fin 512) (g : Fin 64) : EReal :=
  Scalar.select (isAt (rt (ix2 i 0)) g) (soft (score x rw i) g * ∑ d, x (ix2 i d) * ew (ix3 g d h)) (0 : EReal)

theorem share_at (H : Holds m ρ x rw rt ew sw) (hx : ∀ i, Real? (x i)) (hrw : ∀ i, Real? (rw i)) (c : Dev nD) (r h : Fin 512) (e : Fin 4) :
    share m ρ c r h e = term x rw rt ew (tokenAt c r) h (expertOf c e) := by
  obtain ⟨p, hp, ep⟩ := soft_real (score x rw (tokenAt c r)) (score_real hx hrw _) (expertOf c e)
  unfold share term
  rw [At.cfC_at, H.x, H.rw, H.rt, ep, ← expert_share _ p hp]
  exact Finset.sum_congr rfl fun d _ => by rw [expert_at H]

/-- The senders of the sixteen slots are the sixteen devices. -/
theorem senders (c : Dev nD) : Function.Bijective fun k : Fin 16 => (pl c (ng k) : Fin 16) := by
  refine Finite.injective_iff_bijective.mp fun a b hab => Fin.ext ?_
  have h : (c.val + (16 - a.val) % 16) % 16 = (c.val + (16 - b.val) % 16) % 16 := congrArg Fin.val hab
  have := a.isLt
  have := b.isLt
  omega

theorem out_eq (H : Holds m ρ x rw rt ew sw) (hx : ∀ i, Real? (x i)) (hrw : ∀ i, Real? (rw i)) (c : Dev nD) (i : Fin 32) (h : Fin 512) :
    outF m ρ c (ix2 i h) = Ref.out x rw rt ew sw (ix2 (ownToken c i) h) := by
  rw [At.outC_at, Ref.out_at, H.x, H.sw]
  refine congrArg (fun b : EReal => _ + b) (Eq.trans ?_ (sum_experts (term x rw rt ew (ownToken c i) h) _ (senders c)))
  refine Finset.sum_congr rfl fun k _ => Finset.sum_congr rfl fun e _ => ?_
  rw [share_at H hx hrw, tokenAt_sent]
  rfl

/-- Each device's result is its block of rows. -/
theorem out_block (H : Holds m ρ x rw rt ew sw) (hx : ∀ i, Real? (x i)) (hrw : ∀ i, Real? (rw i)) (c : Dev nD) :
    outF m ρ c = Layout.block ⟨2, ![32, 512]⟩ ⟨2, ![512, 512]⟩ 0 16 c (Ref.out x rw rt ew sw) := by
  funext i
  obtain ⟨p, q, rfl⟩ : ∃ (p : Fin 32) (q : Fin 512), i = ix2 p q := ⟨i 0, i 1, by
    funext a
    match a with
    | ⟨0, _⟩ => rfl
    | ⟨1, _⟩ => rfl⟩
  rw [out_eq H hx hrw]
  refine congrArg (Ref.out x rw rt ew sw) (funext fun a => Fin.ext ?_)
  match a with
  | ⟨0, _⟩ => exact congrArg (fun k : ℕ => k + _) (Nat.mul_comm _ _)
  | ⟨1, _⟩ => rfl

end Values

/-! ## The result array after the run -/

variable {F : FTy → Type} [FloatOps F]

theorem flushed_out (m : (ℓ : Loc nD τ sig) → Buf (Elt F) ℓ) (ρ : Dev nD → PrngReg) (c : Dev nD) (t : Fin cfg0.N) :
    (dats m ρ 0 c).flushed 5 t = ((cfg0.win 5).blk t).view.read (Elt F) (outC m ρ c) := by
  obtain rfl : t = t0_0 := Fin.ext (by have : t.val < 1 := t.isLt; show t.val = 0; omega)
  unfold Pipeline.Dat.flushed
  funext i
  refine congrArg (outC m ρ c) (funext fun a => Fin.ext ?_)
  show (i a).val = 0 * _ + 1 * (i a).val
  omega

theorem cover_out (i : S32x512.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  intro a
  match a with
  | ⟨0, _⟩ => exact ⟨Nat.zero_le _, Nat.lt_of_lt_of_le (show (i 0).val < 32 from (i 0).isLt)
      (show 32 ≤ win0_5.kind.off (win0_5.index t0_0 0) (win0_5.size 0) + win0_5.xsize (grid0.coords t0_0) 0 by decide +kernel)⟩
  | ⟨1, _⟩ => exact ⟨Nat.zero_le _, Nat.lt_of_lt_of_le (show (i 1).val < 512 from (i 1).isLt)
      (show 512 ≤ win0_5.kind.off (win0_5.index t0_0 1) (win0_5.size 1) + win0_5.xsize (grid0.coords t0_0) 1 by decide +kernel)⟩

theorem finalA_out (m : (ℓ : Loc nD τ sig) → Buf (Elt F) ℓ) (ρ : Dev nD → PrngReg) (c : Dev nD) : finalA m ρ c 5 = outC m ρ c :=
  (dats m ρ 0 c).arrAt_eq_of_cover 5 (outC m ρ c) (fun t _ => flushed_out m ρ c t) cover_out

/-! ## The claims -/

theorem value : Cert.algebraic_KernelIdeal_ReferenceIdeal_pre_scores_finite_KernelIdeal := fun m g m' g' hpre hargs => by
  have H : Holds m g (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4)) :=
    ⟨fun c => (xC_eq m g c).trans (hargs c).1, fun c => (rwC_eq m g c).trans (hargs c).2.1, fun c => (rtC_eq m g c).trans (hargs c).2.2.1,
      fun c => (ewC_eq m g c).trans (hargs c).2.2.2.1, fun c => (swC_eq m g c).trans (hargs c).2.2.2.2⟩
  obtain ⟨hx, hrw⟩ := finite_of_pre _ _ _ _ _ (hpre 0)
  rw [(hargs 0).1] at hx
  rw [(hargs 0).2.1] at hrw
  refine ⟨_, (θ_run defs _ _).mono (fun _ h c => ⟨?_, ?_⟩) (run_main m g), (θ_run Cert.ReferenceIdeal.defs _ _).mono (fun _ h => h 0) (Ref.run_out m' g')⟩
  · exact ((h.1 c (5 : Fin 6)).trans (finalA_out m g c)).trans (out_block H hx hrw c)
  · exact ⟨(h.1 c (0 : Fin 6)).trans (finalA_arg m g c 0 (by decide)), (h.1 c (1 : Fin 6)).trans (finalA_arg m g c 1 (by decide)),
        (h.1 c (2 : Fin 6)).trans (finalA_arg m g c 2 (by decide)), (h.1 c (3 : Fin 6)).trans (finalA_arg m g c 3 (by decide)),
        (h.1 c (4 : Fin 6)).trans (finalA_arg m g c 4 (by decide))⟩

theorem frame_KernelIdeal_pre : Cert.quiescent_KernelIdeal_pre_scores_finite_KernelIdeal := fun m ρ _ => frame_run (F := Ideal) m ρ

theorem frame_ReferenceIdeal_pre : Cert.quiescent_ReferenceIdeal_pre_scores_finite_ReferenceIdeal := fun m ρ _ =>
  frame_ReferenceIdeal m ρ trivial

end Cert.Moe

end
-- ==== Proof.lean ====
/- The proof of the claims: the frames are `proof/Proof/Frames.lean`'s, the value equation `proof/Proof/Equation.lean`'s. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Moe.pre_facts, Cert.Moe.pre_facts_reference,
  Cert.Moe.frame_Kernel, Cert.Moe.frame_KernelIdeal, Cert.Moe.frame_KernelIdeal_pre, Cert.Moe.frame_ReferenceIdeal, Cert.Moe.frame_ReferenceIdeal_pre,
  trivial, Cert.Moe.value⟩

end Cert.Proof

end
